-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S4x2x512x2048 : Shape := ⟨4, ![4, 2, 512, 2048]⟩
abbrev S4x512x2048 : Shape := ⟨3, ![4, 512, 2048]⟩
abbrev S4x2 : Shape := ⟨2, ![4, 2]⟩
abbrev S4 : Shape := ⟨1, ![4]⟩
abbrev S_ : Shape := ⟨0, ![]⟩
abbrev S512x512 : Shape := ⟨2, ![512, 512]⟩
abbrev S512x2048 : Shape := ⟨2, ![512, 2048]⟩
abbrev S1x1x512x2048 : Shape := ⟨4, ![1, 1, 512, 2048]⟩
abbrev S1x1 : Shape := ⟨2, ![1, 1]⟩
abbrev S1x512x2048 : Shape := ⟨3, ![1, 512, 2048]⟩

abbrev nBuf : Space → Nat
  | .hbm => 5
  | .vmem => 4
  | .smem => 2
  | _ => 0

abbrev bufTy : (tb : Table) → Fin (tcTables nBuf tb) → BufTy
  | .hbm, ⟨0, _⟩ => ⟨S4096x512, .fp8e4m3⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x512, .fp8e4m3⟩
  | .local _ .vmem, ⟨1, _⟩ => ⟨S512x8192, .fp8e5m2⟩
  | .local _ .vmem, ⟨2, _⟩ => ⟨S4x2x512x2048, .bf16⟩
  | .local _ .vmem, ⟨3, _⟩ => ⟨S4x512x2048, .f32⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 5 24 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_7 : BitVec 32 := 1#32
  let v12 : BitVec 32 := Scalar.muli v5 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_9 : BitVec 32 := 1#32
  let v14 : BitVec 32 := Scalar.muli v7 c1_i32_9
  let v15 : BitVec 32 := Scalar.addi c0_i32_10 v14
  v15.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v16 : BitVec 32 := Scalar.muli v2 c512_i32
  let v17 : Index := Scalar.indexCast v16
  let c0_11 : Index := 0#32
  ![v17.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_26 : BitVec 32 := 1#32
  let v29 : BitVec 32 := Scalar.muli v7 c1_i32_26
  let v30 : BitVec 32 := Scalar.addi c0_i32_27 v29
  v30.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v52 : BitVec 32 := Scalar.muli v7 c1_i32_47
  let v53 : BitVec 32 := Scalar.addi c0_i32_48 v52
  v53.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_68 : BitVec 32 := 1#32
  let v75 : BitVec 32 := Scalar.muli v5 c1_i32_68
  let v76 : BitVec 32 := Scalar.addi c0_i32_69 v75
  v76.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_88 : BitVec 32 := 1#32
  let v98 : BitVec 32 := Scalar.muli v5 c1_i32_88
  let v99 : BitVec 32 := Scalar.addi c0_i32_89 v98
  v99.toNat
def k0_off2 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c7_i32
  let c8_i32_112 : BitVec 32 := 8#32
  let v119 : BitVec 32 := Scalar.remsi v118 c8_i32_112
  let c512_i32_113 : BitVec 32 := 512#32
  let v120 : BitVec 32 := Scalar.muli v119 c512_i32_113
  let v121 : Index := Scalar.indexCast v120
  let c0_114 : Index := 0#32
  ![v121.toNat, 0]
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_137 : BitVec 32 := 1#32
  let v142 : BitVec 32 := Scalar.muli v5 c1_i32_137
  let v143 : BitVec 32 := Scalar.addi c0_i32_138 v142
  v143.toNat
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_150 : BitVec 32 := 1#32
  let v146 : BitVec 32 := Scalar.muli v7 c1_i32_150
  let v147 : BitVec 32 := Scalar.addi c0_i32_151 v146
  v147.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_200 : BitVec 32 := 1#32
  let v190 : BitVec 32 := Scalar.muli v5 c1_i32_200
  let v191 : BitVec 32 := Scalar.addi c0_i32_201 v190
  v191.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_213 : BitVec 32 := 1#32
  let v194 : BitVec 32 := Scalar.muli v7 c1_i32_213
  let v195 : BitVec 32 := Scalar.addi c0_i32_214 v194
  v195.toNat
def k0_dev11 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_263 : BitVec 32 := 1#32
  let v238 : BitVec 32 := Scalar.muli v7 c1_i32_263
  let v239 : BitVec 32 := Scalar.addi c0_i32_264 v238
  v239.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_276 : BitVec 32 := 1#32
  let v242 : BitVec 32 := Scalar.muli v5 c1_i32_276
  let v243 : BitVec 32 := Scalar.addi c0_i32_277 v242
  v243.toNat
def k0_dev13 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_326 : BitVec 32 := 1#32
  let v286 : BitVec 32 := Scalar.muli v7 c1_i32_326
  let v287 : BitVec 32 := Scalar.addi c0_i32_327 v286
  v287.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_339 : BitVec 32 := 1#32
  let v290 : BitVec 32 := Scalar.muli v5 c1_i32_339
  let v291 : BitVec 32 := Scalar.addi c0_i32_340 v290
  v291.toNat
def k0_dev15 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_388 : BitVec 32 := 1#32
  let v334 : BitVec 32 := Scalar.muli v5 c1_i32_388
  let v335 : BitVec 32 := Scalar.addi c0_i32_389 v334
  v335.toNat
def k0_dev16 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_401 : BitVec 32 := 1#32
  let v338 : BitVec 32 := Scalar.muli v7 c1_i32_401
  let v339 : BitVec 32 := Scalar.addi c0_i32_402 v338
  v339.toNat
def k0_dev17 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_451 : BitVec 32 := 1#32
  let v382 : BitVec 32 := Scalar.muli v5 c1_i32_451
  let v383 : BitVec 32 := Scalar.addi c0_i32_452 v382
  v383.toNat
def k0_dev18 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_464 : BitVec 32 := 1#32
  let v386 : BitVec 32 := Scalar.muli v7 c1_i32_464
  let v387 : BitVec 32 := Scalar.addi c0_i32_465 v386
  v387.toNat
def k0_dev19 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_514 : BitVec 32 := 1#32
  let v430 : BitVec 32 := Scalar.muli v7 c1_i32_514
  let v431 : BitVec 32 := Scalar.addi c0_i32_515 v430
  v431.toNat
def k0_dev20 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_527 : BitVec 32 := 1#32
  let v434 : BitVec 32 := Scalar.muli v5 c1_i32_527
  let v435 : BitVec 32 := Scalar.addi c0_i32_528 v434
  v435.toNat
def k0_dev21 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_577 : BitVec 32 := 1#32
  let v478 : BitVec 32 := Scalar.muli v7 c1_i32_577
  let v479 : BitVec 32 := Scalar.addi c0_i32_578 v478
  v479.toNat
def k0_dev22 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_590 : BitVec 32 := 1#32
  let v482 : BitVec 32 := Scalar.muli v5 c1_i32_590
  let v483 : BitVec 32 := Scalar.addi c0_i32_591 v482
  v483.toNat
def k0_dev23 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_639 : BitVec 32 := 1#32
  let v526 : BitVec 32 := Scalar.muli v5 c1_i32_639
  let v527 : BitVec 32 := Scalar.addi c0_i32_640 v526
  v527.toNat
def k0_dev24 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_652 : BitVec 32 := 1#32
  let v530 : BitVec 32 := Scalar.muli v7 c1_i32_652
  let v531 : BitVec 32 := Scalar.addi c0_i32_653 v530
  v531.toNat
def k0_dev25 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_702 : BitVec 32 := 1#32
  let v574 : BitVec 32 := Scalar.muli v5 c1_i32_702
  let v575 : BitVec 32 := Scalar.addi c0_i32_703 v574
  v575.toNat
def k0_dev26 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_715 : BitVec 32 := 1#32
  let v578 : BitVec 32 := Scalar.muli v7 c1_i32_715
  let v579 : BitVec 32 := Scalar.addi c0_i32_716 v578
  v579.toNat
def k0_dev27 (d0 : Dev nD) : Nat :=
  let c0_i32_766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_765 : BitVec 32 := 1#32
  let v622 : BitVec 32 := Scalar.muli v7 c1_i32_765
  let v623 : BitVec 32 := Scalar.addi c0_i32_766 v622
  v623.toNat
def k0_dev28 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_778 : BitVec 32 := 1#32
  let v626 : BitVec 32 := Scalar.muli v5 c1_i32_778
  let v627 : BitVec 32 := Scalar.addi c0_i32_779 v626
  v627.toNat
def k0_dev29 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_828 : BitVec 32 := 1#32
  let v670 : BitVec 32 := Scalar.muli v7 c1_i32_828
  let v671 : BitVec 32 := Scalar.addi c0_i32_829 v670
  v671.toNat
def k0_dev30 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_841 : BitVec 32 := 1#32
  let v674 : BitVec 32 := Scalar.muli v5 c1_i32_841
  let v675 : BitVec 32 := Scalar.addi c0_i32_842 v674
  v675.toNat
def k0_dev31 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_890 : BitVec 32 := 1#32
  let v718 : BitVec 32 := Scalar.muli v5 c1_i32_890
  let v719 : BitVec 32 := Scalar.addi c0_i32_891 v718
  v719.toNat
def k0_dev32 (d0 : Dev nD) : Nat :=
  let c0_i32_904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_903 : BitVec 32 := 1#32
  let v722 : BitVec 32 := Scalar.muli v7 c1_i32_903
  let v723 : BitVec 32 := Scalar.addi c0_i32_904 v722
  v723.toNat
def k0_dev33 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_953 : BitVec 32 := 1#32
  let v766 : BitVec 32 := Scalar.muli v5 c1_i32_953
  let v767 : BitVec 32 := Scalar.addi c0_i32_954 v766
  v767.toNat
def k0_dev34 (d0 : Dev nD) : Nat :=
  let c0_i32_967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_966 : BitVec 32 := 1#32
  let v770 : BitVec 32 := Scalar.muli v7 c1_i32_966
  let v771 : BitVec 32 := Scalar.addi c0_i32_967 v770
  v771.toNat
def k0_dev35 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1016 : BitVec 32 := 1#32
  let v814 : BitVec 32 := Scalar.muli v7 c1_i32_1016
  let v815 : BitVec 32 := Scalar.addi c0_i32_1017 v814
  v815.toNat
def k0_dev36 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1029 : BitVec 32 := 1#32
  let v818 : BitVec 32 := Scalar.muli v5 c1_i32_1029
  let v819 : BitVec 32 := Scalar.addi c0_i32_1030 v818
  v819.toNat
def k0_dev37 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1079 : BitVec 32 := 1#32
  let v862 : BitVec 32 := Scalar.muli v7 c1_i32_1079
  let v863 : BitVec 32 := Scalar.addi c0_i32_1080 v862
  v863.toNat
def k0_dev38 (d0 : Dev nD) : Nat :=
  let c0_i32_1093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1092 : BitVec 32 := 1#32
  let v866 : BitVec 32 := Scalar.muli v5 c1_i32_1092
  let v867 : BitVec 32 := Scalar.addi c0_i32_1093 v866
  v867.toNat
def k0_dev39 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1142 : BitVec 32 := 1#32
  let v910 : BitVec 32 := Scalar.muli v5 c1_i32_1142
  let v911 : BitVec 32 := Scalar.addi c0_i32_1143 v910
  v911.toNat
def k0_dev40 (d0 : Dev nD) : Nat :=
  let c0_i32_1156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1155 : BitVec 32 := 1#32
  let v914 : BitVec 32 := Scalar.muli v7 c1_i32_1155
  let v915 : BitVec 32 := Scalar.addi c0_i32_1156 v914
  v915.toNat
def k0_dev41 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1205 : BitVec 32 := 1#32
  let v958 : BitVec 32 := Scalar.muli v5 c1_i32_1205
  let v959 : BitVec 32 := Scalar.addi c0_i32_1206 v958
  v959.toNat
def k0_dev42 (d0 : Dev nD) : Nat :=
  let c0_i32_1219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1218 : BitVec 32 := 1#32
  let v962 : BitVec 32 := Scalar.muli v7 c1_i32_1218
  let v963 : BitVec 32 := Scalar.addi c0_i32_1219 v962
  v963.toNat
def k0_dev43 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1268 : BitVec 32 := 1#32
  let v1006 : BitVec 32 := Scalar.muli v7 c1_i32_1268
  let v1007 : BitVec 32 := Scalar.addi c0_i32_1269 v1006
  v1007.toNat
def k0_dev44 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1281 : BitVec 32 := 1#32
  let v1010 : BitVec 32 := Scalar.muli v5 c1_i32_1281
  let v1011 : BitVec 32 := Scalar.addi c0_i32_1282 v1010
  v1011.toNat
def k0_dev45 (d0 : Dev nD) : Nat :=
  let c0_i32_1332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1331 : BitVec 32 := 1#32
  let v1054 : BitVec 32 := Scalar.muli v7 c1_i32_1331
  let v1055 : BitVec 32 := Scalar.addi c0_i32_1332 v1054
  v1055.toNat
def k0_dev46 (d0 : Dev nD) : Nat :=
  let c0_i32_1345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1344 : BitVec 32 := 1#32
  let v1058 : BitVec 32 := Scalar.muli v5 c1_i32_1344
  let v1059 : BitVec 32 := Scalar.addi c0_i32_1345 v1058
  v1059.toNat
def k0_dev47 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1394 : BitVec 32 := 1#32
  let v1102 : BitVec 32 := Scalar.muli v5 c1_i32_1394
  let v1103 : BitVec 32 := Scalar.addi c0_i32_1395 v1102
  v1103.toNat
def k0_dev48 (d0 : Dev nD) : Nat :=
  let c0_i32_1408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1407 : BitVec 32 := 1#32
  let v1106 : BitVec 32 := Scalar.muli v7 c1_i32_1407
  let v1107 : BitVec 32 := Scalar.addi c0_i32_1408 v1106
  v1107.toNat
def k0_dev49 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1457 : BitVec 32 := 1#32
  let v1150 : BitVec 32 := Scalar.muli v5 c1_i32_1457
  let v1151 : BitVec 32 := Scalar.addi c0_i32_1458 v1150
  v1151.toNat
def k0_dev50 (d0 : Dev nD) : Nat :=
  let c0_i32_1471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1470 : BitVec 32 := 1#32
  let v1154 : BitVec 32 := Scalar.muli v7 c1_i32_1470
  let v1155 : BitVec 32 := Scalar.addi c0_i32_1471 v1154
  v1155.toNat
def k0_dev51 (d0 : Dev nD) : Nat :=
  let c0_i32_1521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1520 : BitVec 32 := 1#32
  let v1198 : BitVec 32 := Scalar.muli v7 c1_i32_1520
  let v1199 : BitVec 32 := Scalar.addi c0_i32_1521 v1198
  v1199.toNat
def k0_dev52 (d0 : Dev nD) : Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1533 : BitVec 32 := 1#32
  let v1202 : BitVec 32 := Scalar.muli v5 c1_i32_1533
  let v1203 : BitVec 32 := Scalar.addi c0_i32_1534 v1202
  v1203.toNat
def k0_dev53 (d0 : Dev nD) : Nat :=
  let c0_i32_1584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1583 : BitVec 32 := 1#32
  let v1246 : BitVec 32 := Scalar.muli v7 c1_i32_1583
  let v1247 : BitVec 32 := Scalar.addi c0_i32_1584 v1246
  v1247.toNat
def k0_dev54 (d0 : Dev nD) : Nat :=
  let c0_i32_1597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1596 : BitVec 32 := 1#32
  let v1250 : BitVec 32 := Scalar.muli v5 c1_i32_1596
  let v1251 : BitVec 32 := Scalar.addi c0_i32_1597 v1250
  v1251.toNat
def k0_off3 (d0 : Dev nD) (c1_i32_1635 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1294 : BitVec 32 := Scalar.addi v2 c1_i32_1635
  let c8_i32_1636 : BitVec 32 := 8#32
  let v1295 : BitVec 32 := Scalar.remsi v1294 c8_i32_1636
  let c512_i32_1637 : BitVec 32 := 512#32
  let v1296 : BitVec 32 := Scalar.muli v1295 c512_i32_1637
  let c0_i32_1640 : BitVec 32 := 0#32
  ![v1296.toNat, 0]
def k0_dev55 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1658 : BitVec 32 := 1#32
  let v1310 : BitVec 32 := Scalar.muli v5 c1_i32_1658
  let v1311 : BitVec 32 := Scalar.addi c0_i32_1659 v1310
  v1311.toNat
def k0_dev56 (d0 : Dev nD) : Nat :=
  let c0_i32_1672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1671 : BitVec 32 := 1#32
  let v1314 : BitVec 32 := Scalar.muli v7 c1_i32_1671
  let v1315 : BitVec 32 := Scalar.addi c0_i32_1672 v1314
  v1315.toNat
def k0_off4 (d0 : Dev nD) (c1_i32_1710 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1358 : BitVec 32 := Scalar.addi v2 c1_i32_1710
  let c8_i32_1711 : BitVec 32 := 8#32
  let v1359 : BitVec 32 := Scalar.remsi v1358 c8_i32_1711
  let c512_i32_1712 : BitVec 32 := 512#32
  let v1360 : BitVec 32 := Scalar.muli v1359 c512_i32_1712
  let c2048_i32 : BitVec 32 := 2048#32
  ![v1360.toNat, 2048]
def k0_dev57 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1732 : BitVec 32 := 1#32
  let v1374 : BitVec 32 := Scalar.muli v5 c1_i32_1732
  let v1375 : BitVec 32 := Scalar.addi c0_i32_1733 v1374
  v1375.toNat
def k0_dev58 (d0 : Dev nD) : Nat :=
  let c0_i32_1746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1745 : BitVec 32 := 1#32
  let v1378 : BitVec 32 := Scalar.muli v7 c1_i32_1745
  let v1379 : BitVec 32 := Scalar.addi c0_i32_1746 v1378
  v1379.toNat
def k0_off5 (d0 : Dev nD) (c7_i32_1784 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1422 : BitVec 32 := Scalar.addi v2 c7_i32_1784
  let c8_i32_1785 : BitVec 32 := 8#32
  let v1423 : BitVec 32 := Scalar.remsi v1422 c8_i32_1785
  let c512_i32_1786 : BitVec 32 := 512#32
  let v1424 : BitVec 32 := Scalar.muli v1423 c512_i32_1786
  let c4096_i32 : BitVec 32 := 4096#32
  ![v1424.toNat, 4096]
def k0_dev59 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1806 : BitVec 32 := 1#32
  let v1438 : BitVec 32 := Scalar.muli v7 c1_i32_1806
  let v1439 : BitVec 32 := Scalar.addi c0_i32_1807 v1438
  v1439.toNat
def k0_dev60 (d0 : Dev nD) : Nat :=
  let c0_i32_1820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1819 : BitVec 32 := 1#32
  let v1442 : BitVec 32 := Scalar.muli v5 c1_i32_1819
  let v1443 : BitVec 32 := Scalar.addi c0_i32_1820 v1442
  v1443.toNat
def k0_off6 (d0 : Dev nD) (c7_i32_1858 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1486 : BitVec 32 := Scalar.addi v2 c7_i32_1858
  let c8_i32_1859 : BitVec 32 := 8#32
  let v1487 : BitVec 32 := Scalar.remsi v1486 c8_i32_1859
  let c512_i32_1860 : BitVec 32 := 512#32
  let v1488 : BitVec 32 := Scalar.muli v1487 c512_i32_1860
  let c6144_i32 : BitVec 32 := 6144#32
  ![v1488.toNat, 6144]
def k0_dev61 (d0 : Dev nD) : Nat :=
  let c0_i32_1881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1880 : BitVec 32 := 1#32
  let v1502 : BitVec 32 := Scalar.muli v7 c1_i32_1880
  let v1503 : BitVec 32 := Scalar.addi c0_i32_1881 v1502
  v1503.toNat
def k0_dev62 (d0 : Dev nD) : Nat :=
  let c0_i32_1894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1893 : BitVec 32 := 1#32
  let v1506 : BitVec 32 := Scalar.muli v5 c1_i32_1893
  let v1507 : BitVec 32 := Scalar.addi c0_i32_1894 v1506
  v1507.toNat
def k0_dev63 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1948 : BitVec 32 := 1#32
  let v1551 : BitVec 32 := Scalar.muli v5 c1_i32_1948
  let v1552 : BitVec 32 := Scalar.addi c0_i32_1949 v1551
  v1552.toNat
def k0_dev64 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1961 : BitVec 32 := 1#32
  let v1555 : BitVec 32 := Scalar.muli v7 c1_i32_1961
  let v1556 : BitVec 32 := Scalar.addi c0_i32_1962 v1555
  v1556.toNat
def k0_dev65 (d0 : Dev nD) : Nat :=
  let c0_i32_2017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2016 : BitVec 32 := 1#32
  let v1600 : BitVec 32 := Scalar.muli v5 c1_i32_2016
  let v1601 : BitVec 32 := Scalar.addi c0_i32_2017 v1600
  v1601.toNat
def k0_dev66 (d0 : Dev nD) : Nat :=
  let c0_i32_2030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2029 : BitVec 32 := 1#32
  let v1604 : BitVec 32 := Scalar.muli v7 c1_i32_2029
  let v1605 : BitVec 32 := Scalar.addi c0_i32_2030 v1604
  v1605.toNat
def k0_dev67 (d0 : Dev nD) : Nat :=
  let c0_i32_2085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2084 : BitVec 32 := 1#32
  let v1649 : BitVec 32 := Scalar.muli v7 c1_i32_2084
  let v1650 : BitVec 32 := Scalar.addi c0_i32_2085 v1649
  v1650.toNat
def k0_dev68 (d0 : Dev nD) : Nat :=
  let c0_i32_2098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2097 : BitVec 32 := 1#32
  let v1653 : BitVec 32 := Scalar.muli v5 c1_i32_2097
  let v1654 : BitVec 32 := Scalar.addi c0_i32_2098 v1653
  v1654.toNat
def k0_dev69 (d0 : Dev nD) : Nat :=
  let c0_i32_2153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2152 : BitVec 32 := 1#32
  let v1698 : BitVec 32 := Scalar.muli v7 c1_i32_2152
  let v1699 : BitVec 32 := Scalar.addi c0_i32_2153 v1698
  v1699.toNat
def k0_dev70 (d0 : Dev nD) : Nat :=
  let c0_i32_2166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2165 : BitVec 32 := 1#32
  let v1702 : BitVec 32 := Scalar.muli v5 c1_i32_2165
  let v1703 : BitVec 32 := Scalar.addi c0_i32_2166 v1702
  v1703.toNat
def k0_dev71 (d0 : Dev nD) : Nat :=
  let c0_i32_2221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2220 : BitVec 32 := 1#32
  let v1747 : BitVec 32 := Scalar.muli v5 c1_i32_2220
  let v1748 : BitVec 32 := Scalar.addi c0_i32_2221 v1747
  v1748.toNat
def k0_dev72 (d0 : Dev nD) : Nat :=
  let c0_i32_2234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2233 : BitVec 32 := 1#32
  let v1751 : BitVec 32 := Scalar.muli v7 c1_i32_2233
  let v1752 : BitVec 32 := Scalar.addi c0_i32_2234 v1751
  v1752.toNat
def k0_dev73 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2288 : BitVec 32 := 1#32
  let v1796 : BitVec 32 := Scalar.muli v5 c1_i32_2288
  let v1797 : BitVec 32 := Scalar.addi c0_i32_2289 v1796
  v1797.toNat
def k0_dev74 (d0 : Dev nD) : Nat :=
  let c0_i32_2302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2301 : BitVec 32 := 1#32
  let v1800 : BitVec 32 := Scalar.muli v7 c1_i32_2301
  let v1801 : BitVec 32 := Scalar.addi c0_i32_2302 v1800
  v1801.toNat
def k0_dev75 (d0 : Dev nD) : Nat :=
  let c0_i32_2357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2356 : BitVec 32 := 1#32
  let v1845 : BitVec 32 := Scalar.muli v7 c1_i32_2356
  let v1846 : BitVec 32 := Scalar.addi c0_i32_2357 v1845
  v1846.toNat
def k0_dev76 (d0 : Dev nD) : Nat :=
  let c0_i32_2370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2369 : BitVec 32 := 1#32
  let v1849 : BitVec 32 := Scalar.muli v5 c1_i32_2369
  let v1850 : BitVec 32 := Scalar.addi c0_i32_2370 v1849
  v1850.toNat
def k0_dev77 (d0 : Dev nD) : Nat :=
  let c0_i32_2425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2424 : BitVec 32 := 1#32
  let v1894 : BitVec 32 := Scalar.muli v7 c1_i32_2424
  let v1895 : BitVec 32 := Scalar.addi c0_i32_2425 v1894
  v1895.toNat
def k0_dev78 (d0 : Dev nD) : Nat :=
  let c0_i32_2438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2437 : BitVec 32 := 1#32
  let v1898 : BitVec 32 := Scalar.muli v5 c1_i32_2437
  let v1899 : BitVec 32 := Scalar.addi c0_i32_2438 v1898
  v1899.toNat
def k0_dev79 (d0 : Dev nD) : Nat :=
  let c0_i32_2493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2492 : BitVec 32 := 1#32
  let v1943 : BitVec 32 := Scalar.muli v5 c1_i32_2492
  let v1944 : BitVec 32 := Scalar.addi c0_i32_2493 v1943
  v1944.toNat
def k0_dev80 (d0 : Dev nD) : Nat :=
  let c0_i32_2506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2505 : BitVec 32 := 1#32
  let v1947 : BitVec 32 := Scalar.muli v7 c1_i32_2505
  let v1948 : BitVec 32 := Scalar.addi c0_i32_2506 v1947
  v1948.toNat
def k0_dev81 (d0 : Dev nD) : Nat :=
  let c0_i32_2561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2560 : BitVec 32 := 1#32
  let v1992 : BitVec 32 := Scalar.muli v5 c1_i32_2560
  let v1993 : BitVec 32 := Scalar.addi c0_i32_2561 v1992
  v1993.toNat
def k0_dev82 (d0 : Dev nD) : Nat :=
  let c0_i32_2574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2573 : BitVec 32 := 1#32
  let v1996 : BitVec 32 := Scalar.muli v7 c1_i32_2573
  let v1997 : BitVec 32 := Scalar.addi c0_i32_2574 v1996
  v1997.toNat
def k0_dev83 (d0 : Dev nD) : Nat :=
  let c0_i32_2629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2628 : BitVec 32 := 1#32
  let v2041 : BitVec 32 := Scalar.muli v7 c1_i32_2628
  let v2042 : BitVec 32 := Scalar.addi c0_i32_2629 v2041
  v2042.toNat
def k0_dev84 (d0 : Dev nD) : Nat :=
  let c0_i32_2642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2641 : BitVec 32 := 1#32
  let v2045 : BitVec 32 := Scalar.muli v5 c1_i32_2641
  let v2046 : BitVec 32 := Scalar.addi c0_i32_2642 v2045
  v2046.toNat
def k0_dev85 (d0 : Dev nD) : Nat :=
  let c0_i32_2697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2696 : BitVec 32 := 1#32
  let v2090 : BitVec 32 := Scalar.muli v7 c1_i32_2696
  let v2091 : BitVec 32 := Scalar.addi c0_i32_2697 v2090
  v2091.toNat
def k0_dev86 (d0 : Dev nD) : Nat :=
  let c0_i32_2710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2709 : BitVec 32 := 1#32
  let v2094 : BitVec 32 := Scalar.muli v5 c1_i32_2709
  let v2095 : BitVec 32 := Scalar.addi c0_i32_2710 v2094
  v2095.toNat
def k0_dev87 (d0 : Dev nD) : Nat :=
  let c0_i32_2765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2764 : BitVec 32 := 1#32
  let v2139 : BitVec 32 := Scalar.muli v5 c1_i32_2764
  let v2140 : BitVec 32 := Scalar.addi c0_i32_2765 v2139
  v2140.toNat
def k0_dev88 (d0 : Dev nD) : Nat :=
  let c0_i32_2778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2777 : BitVec 32 := 1#32
  let v2143 : BitVec 32 := Scalar.muli v7 c1_i32_2777
  let v2144 : BitVec 32 := Scalar.addi c0_i32_2778 v2143
  v2144.toNat
def k0_dev89 (d0 : Dev nD) : Nat :=
  let c0_i32_2833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2832 : BitVec 32 := 1#32
  let v2188 : BitVec 32 := Scalar.muli v5 c1_i32_2832
  let v2189 : BitVec 32 := Scalar.addi c0_i32_2833 v2188
  v2189.toNat
def k0_dev90 (d0 : Dev nD) : Nat :=
  let c0_i32_2846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2845 : BitVec 32 := 1#32
  let v2192 : BitVec 32 := Scalar.muli v7 c1_i32_2845
  let v2193 : BitVec 32 := Scalar.addi c0_i32_2846 v2192
  v2193.toNat
def k0_dev91 (d0 : Dev nD) : Nat :=
  let c0_i32_2901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2900 : BitVec 32 := 1#32
  let v2237 : BitVec 32 := Scalar.muli v7 c1_i32_2900
  let v2238 : BitVec 32 := Scalar.addi c0_i32_2901 v2237
  v2238.toNat
def k0_dev92 (d0 : Dev nD) : Nat :=
  let c0_i32_2914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2913 : BitVec 32 := 1#32
  let v2241 : BitVec 32 := Scalar.muli v5 c1_i32_2913
  let v2242 : BitVec 32 := Scalar.addi c0_i32_2914 v2241
  v2242.toNat
def k0_dev93 (d0 : Dev nD) : Nat :=
  let c0_i32_2969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2968 : BitVec 32 := 1#32
  let v2286 : BitVec 32 := Scalar.muli v7 c1_i32_2968
  let v2287 : BitVec 32 := Scalar.addi c0_i32_2969 v2286
  v2287.toNat
def k0_dev94 (d0 : Dev nD) : Nat :=
  let c0_i32_2982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2981 : BitVec 32 := 1#32
  let v2290 : BitVec 32 := Scalar.muli v5 c1_i32_2981
  let v2291 : BitVec 32 := Scalar.addi c0_i32_2982 v2290
  v2291.toNat
def k0_dev95 (d0 : Dev nD) : Nat :=
  let c0_i32_3037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3036 : BitVec 32 := 1#32
  let v2335 : BitVec 32 := Scalar.muli v5 c1_i32_3036
  let v2336 : BitVec 32 := Scalar.addi c0_i32_3037 v2335
  v2336.toNat
def k0_dev96 (d0 : Dev nD) : Nat :=
  let c0_i32_3050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3049 : BitVec 32 := 1#32
  let v2339 : BitVec 32 := Scalar.muli v7 c1_i32_3049
  let v2340 : BitVec 32 := Scalar.addi c0_i32_3050 v2339
  v2340.toNat
def k0_dev97 (d0 : Dev nD) : Nat :=
  let c0_i32_3105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3104 : BitVec 32 := 1#32
  let v2384 : BitVec 32 := Scalar.muli v5 c1_i32_3104
  let v2385 : BitVec 32 := Scalar.addi c0_i32_3105 v2384
  v2385.toNat
def k0_dev98 (d0 : Dev nD) : Nat :=
  let c0_i32_3118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3117 : BitVec 32 := 1#32
  let v2388 : BitVec 32 := Scalar.muli v7 c1_i32_3117
  let v2389 : BitVec 32 := Scalar.addi c0_i32_3118 v2388
  v2389.toNat
def k0_dev99 (d0 : Dev nD) : Nat :=
  let c0_i32_3173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3172 : BitVec 32 := 1#32
  let v2433 : BitVec 32 := Scalar.muli v7 c1_i32_3172
  let v2434 : BitVec 32 := Scalar.addi c0_i32_3173 v2433
  v2434.toNat
def k0_dev100 (d0 : Dev nD) : Nat :=
  let c0_i32_3186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3185 : BitVec 32 := 1#32
  let v2437 : BitVec 32 := Scalar.muli v5 c1_i32_3185
  let v2438 : BitVec 32 := Scalar.addi c0_i32_3186 v2437
  v2438.toNat
def k0_dev101 (d0 : Dev nD) : Nat :=
  let c0_i32_3241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3240 : BitVec 32 := 1#32
  let v2482 : BitVec 32 := Scalar.muli v7 c1_i32_3240
  let v2483 : BitVec 32 := Scalar.addi c0_i32_3241 v2482
  v2483.toNat
def k0_dev102 (d0 : Dev nD) : Nat :=
  let c0_i32_3254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3253 : BitVec 32 := 1#32
  let v2486 : BitVec 32 := Scalar.muli v5 c1_i32_3253
  let v2487 : BitVec 32 := Scalar.addi c0_i32_3254 v2486
  v2487.toNat
def k0_dev103 (d0 : Dev nD) : Nat :=
  let c0_i32_3309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3308 : BitVec 32 := 1#32
  let v2531 : BitVec 32 := Scalar.muli v5 c1_i32_3308
  let v2532 : BitVec 32 := Scalar.addi c0_i32_3309 v2531
  v2532.toNat
def k0_dev104 (d0 : Dev nD) : Nat :=
  let c0_i32_3322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3321 : BitVec 32 := 1#32
  let v2535 : BitVec 32 := Scalar.muli v7 c1_i32_3321
  let v2536 : BitVec 32 := Scalar.addi c0_i32_3322 v2535
  v2536.toNat
def k0_dev105 (d0 : Dev nD) : Nat :=
  let c0_i32_3377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3376 : BitVec 32 := 1#32
  let v2580 : BitVec 32 := Scalar.muli v5 c1_i32_3376
  let v2581 : BitVec 32 := Scalar.addi c0_i32_3377 v2580
  v2581.toNat
def k0_dev106 (d0 : Dev nD) : Nat :=
  let c0_i32_3390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3389 : BitVec 32 := 1#32
  let v2584 : BitVec 32 := Scalar.muli v7 c1_i32_3389
  let v2585 : BitVec 32 := Scalar.addi c0_i32_3390 v2584
  v2585.toNat
def k0_dev107 (d0 : Dev nD) : Nat :=
  let c0_i32_3445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3444 : BitVec 32 := 1#32
  let v2629 : BitVec 32 := Scalar.muli v7 c1_i32_3444
  let v2630 : BitVec 32 := Scalar.addi c0_i32_3445 v2629
  v2630.toNat
def k0_dev108 (d0 : Dev nD) : Nat :=
  let c0_i32_3458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3457 : BitVec 32 := 1#32
  let v2633 : BitVec 32 := Scalar.muli v5 c1_i32_3457
  let v2634 : BitVec 32 := Scalar.addi c0_i32_3458 v2633
  v2634.toNat
def k0_dev109 (d0 : Dev nD) : Nat :=
  let c0_i32_3513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3512 : BitVec 32 := 1#32
  let v2678 : BitVec 32 := Scalar.muli v7 c1_i32_3512
  let v2679 : BitVec 32 := Scalar.addi c0_i32_3513 v2678
  v2679.toNat
def k0_dev110 (d0 : Dev nD) : Nat :=
  let c0_i32_3526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3525 : BitVec 32 := 1#32
  let v2682 : BitVec 32 := Scalar.muli v5 c1_i32_3525
  let v2683 : BitVec 32 := Scalar.addi c0_i32_3526 v2682
  v2683.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Blocks.lean ====
/- The kernel body written as a sequence of blocks, one block per stream and step. -/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Regions

@[expose] public section

noncomputable section

namespace Cert.Collective

open Cert.KernelIdeal Cert.KernelIdeal.Gen
open Idealize.ShloMosaic Idealize.ShloMosaic.TcCoe
open Idealize.SL Idealize.SL.Sem

variable {F : FTy → Type} [FloatOps F]

/-! ## Buffers, slots, tiles and semaphores by stream -/

/-- The staged block of `x`. -/
abbrev xM : Memref sig .tc .vmem S4096x512 .fp8e4m3 := Memref.whole cc0_stg0_0
/-- The staged block of `w`. -/
abbrev wM : Memref sig .tc .vmem S512x8192 .fp8e5m2 := Memref.whole cc0_stg1_0
/-- The staged first scale. -/
abbrev sxM : Memref sig .tc .smem S1 .f32 := Memref.whole cc0_stg2_0
/-- The staged second scale. -/
abbrev swM : Memref sig .tc .smem S1 .f32 := Memref.whole cc0_stg3_0
/-- The result. -/
abbrev outM : Memref sig .tc .hbm S4096x8192 .f32 := Memref.whole main_v1
/-- The travelling chunks: two slots per stream. -/
abbrev bufsM : Memref sig .tc .vmem S4x2x512x2048 .bf16 := Memref.whole cc0_scratch0
/-- The stores' staging: one tile per stream. -/
abbrev pchM : Memref sig .tc .vmem S4x512x2048 .f32 := Memref.whole cc0_scratch1

theorem slotInb (k : Fin 4) (s : Fin 2) : ∀ a, (![k.val, s.val, 0, 0] : Fin 4 → ℕ) a + S1x1x512x2048.size a ≤ S4x2x512x2048.size a := by
  revert k s; decide
theorem semInb (k : Fin 4) (s : Fin 2) : ∀ a, (![k.val, s.val] : Fin 2 → ℕ) a + S1x1.size a ≤ S4x2.size a := by
  revert k s; decide
theorem sem1Inb (k : Fin 4) : ∀ a, (![k.val] : Fin 1 → ℕ) a + S1.size a ≤ S4.size a := by
  revert k; decide
theorem pchInb (k : Fin 4) : ∀ a, (![k.val, 0, 0] : Fin 3 → ℕ) a + S1x512x2048.size a ≤ S4x512x2048.size a := by
  revert k; decide
theorem colInb (k : Fin 4) : ∀ a, (![0, 2048 * k.val] : Fin 2 → ℕ) a + S512x2048.size a ≤ S512x8192.size a := by
  revert k; decide

/-- The rectangle of slot `s` of stream `k` in the travelling chunks. -/
abbrev slotR (k : Fin 4) (s : Fin 2) : Rect S4x2x512x2048 :=
  Rect.unit (s := S4x2x512x2048) ![k.val, s.val, 0, 0] S1x1x512x2048.size (slotInb k s)
/-- Slot `s` of stream `k`. -/
abbrev slot (k : Fin 4) (s : Fin 2) : Memref sig .tc .vmem S512x2048 .bf16 :=
  (bufsM.slice (slotR k s) (fun _ => rfl)).squeeze S512x2048 squeezes_S1x1x512x2048_S512x2048
/-- The rectangle of stream `k`'s staging tile. -/
abbrev pchR (k : Fin 4) : Rect S4x512x2048 :=
  Rect.unit (s := S4x512x2048) ![k.val, 0, 0] S1x512x2048.size (pchInb k)
/-- Stream `k`'s staging tile. -/
abbrev pch (k : Fin 4) : Memref sig .tc .vmem S512x2048 .f32 :=
  (pchM.slice (pchR k) (fun _ => rfl)).squeeze S512x2048 squeezes_S1x512x2048_S512x2048
/-- The tile of the result at an offset. -/
abbrev tile (o : Fin 2 → ℕ) (h : ∀ a, o a + S512x2048.size a ≤ S4096x8192.size a) : Memref sig .tc .hbm S512x2048 .f32 :=
  outM.slice (Rect.unit (s := S4096x8192) o S512x2048.size h) (fun _ => rfl)
/-- The send semaphore of a slot. -/
abbrev sendS (k : Fin 4) (s : Fin 2) :=
  ((cc0_scratch2.slice (Rect.unit (s := S4x2) ![k.val, s.val] S1x1.size (semInb k s))).squeeze S_ squeezes_S1x1_S_).sem
/-- The receive semaphore of a slot. -/
abbrev recvS (k : Fin 4) (s : Fin 2) :=
  ((cc0_scratch3.slice (Rect.unit (s := S4x2) ![k.val, s.val] S1x1.size (semInb k s))).squeeze S_ squeezes_S1x1_S_).sem
/-- The semaphore of a stream's stores. -/
abbrev storeS (k : Fin 4) :=
  ((cc0_scratch4.slice (Rect.unit (s := S4) ![k.val] S1.size (sem1Inb k))).squeeze S_ squeezes_S1_S_).sem
/-- The credit semaphore of a stream. -/
abbrev credS (k : Fin 4) :=
  ((cc0_scratch5.slice (Rect.unit (s := S4) ![k.val] S1.size (sem1Inb k))).squeeze S_ squeezes_S1_S_).sem
/-- The barrier semaphore. -/
abbrev barS := (SemArray.scalar (sig.barrier 0 rfl) : Sems sig S_).sem

theorem slotWords (k : Fin 4) (s : Fin 2) : (slotR k s).WholeWords (EltTy.packing .bf16) := by
  revert k s; decide
theorem slotPacked (k : Fin 4) (s : Fin 2) : (slotR k s).PackedRows (EltTy.packing .bf16) := by
  revert k s; decide

/-! ## What is computed -/

/-- The product of a block of rows of `x` with a block of columns of `w`. -/
def pdot (x : Vec F S512x512 .fp8e4m3) (w : Vec F S512x2048 .fp8e5m2) : FVec F S512x2048 .f32 :=
  matmul dot_S512x512_S512x2048_S512x2048_1_0_0_1_n_n none
    (extf .bf16 (shapeCast S512x512 x shapeCasts_S512x512_S512x512) bitsLt_fp8e4m3_bf16)
    (extf .bf16 (shapeCast S512x2048 w shapeCasts_S512x2048_S512x2048) bitsLt_fp8e5m2_bf16)
    (constant S512x2048 .f32 0x00000000#32)
/-- A travelling chunk as the slot keeps it. -/
abbrev lift4 (v : Vec F S512x2048 .bf16) : Vec F S1x1x512x2048 .bf16 :=
  shapeCast S1x1x512x2048 v shapeCasts_S512x2048_S1x1x512x2048
/-- A slot's contents as a travelling chunk. -/
abbrev drop4 (v : Vec F S1x1x512x2048 .bf16) : Vec F S512x2048 .bf16 :=
  shapeCast S512x2048 v shapeCasts_S1x1x512x2048_S512x2048
/-- A tile as the staging keeps it. -/
abbrev lift3 (v : Vec F S512x2048 .f32) : Vec F S1x512x2048 .f32 :=
  shapeCast S1x512x2048 v shapeCasts_S512x2048_S1x512x2048
/-- The first chunk a device sends. -/
def initV (x : Vec F S512x512 .fp8e4m3) (w : Vec F S512x2048 .fp8e5m2) : FVec F S512x2048 .bf16 :=
  truncf .bf16 (pdot x w) bitsLt_bf16_f32
/-- A chunk received, with this device's product added. -/
def accV (v : Vec F S512x2048 .bf16) (x : Vec F S512x512 .fp8e4m3) (w : Vec F S512x2048 .fp8e5m2) : FVec F S512x2048 .bf16 :=
  addf v (truncf .bf16 (pdot x w) bitsLt_bf16_f32)
/-- The finished tile: the last product added, scaled, and cut off below at zero. -/
def yV (sc : F .f32) (v : Vec F S512x2048 .bf16) (x : Vec F S512x512 .fp8e4m3) (w : Vec F S512x2048 .fp8e5m2) : FVec F S512x2048 .f32 :=
  maximumf (mulf (addf (extf .f32 v bitsLt_bf16_f32) (pdot x w)) (broadcast S512x2048 sc))
    (broadcast S512x2048 (Scalar.ofBits .f32 0x00000000#32))
/-- A finished tile narrowed to travel. -/
def narrowV (y : FVec F S512x2048 .f32) : FVec F S512x2048 .bf16 := truncf .bf16 y bitsLt_bf16_f32
/-- A finished tile received, widened to be stored. -/
def widenV (v : Vec F S512x2048 .bf16) : FVec F S512x2048 .f32 := extf .f32 v bitsLt_bf16_f32

/-! ## The operations -/

/-- Programs of the TensorCore. -/
abbrev P (F : FTy → Type) [FloatOps F] (α : Type) := Prog (TpuEff nD τ sig (Elt F) Λ₀ .tc) α

/-- Wait for the chunk arriving in slot `s`. -/
def waitRecv (k : Fin 4) (s s' : Fin 2) : P F PUnit :=
  Prog.lift (.waitDma2 (recvS k s) (slot k s') (slot k s)
    (((Memref.isWhole_whole cc0_scratch0).wordExact_slice rfl _ (slotWords k s')).reshape _ _)
    (((Memref.isWhole_whole cc0_scratch0).wordExact_slice rfl _ (slotWords k s)).reshape _ _))
/-- Wait for the chunk in slot `s'` to have left. -/
def waitSend (k : Fin 4) (s s' : Fin 2) : P F PUnit :=
  Prog.lift (.waitDma2 (sendS k s') (slot k s) (slot k s')
    (((Memref.isWhole_whole cc0_scratch0).wordExact_slice rfl _ (slotWords k s)).reshape _ _)
    (((Memref.isWhole_whole cc0_scratch0).wordExact_slice rfl _ (slotWords k s')).reshape _ _))
/-- Send slot `s` to slot `s'` of device `d`. -/
def send (k : Fin 4) (s s' : Fin 2) (d : Dev nD) : P F PUnit :=
  Prog.lift (.enqueueDma (slot k s) (.remote (Dev.tc d) (slot k s') (.dma (sendS k s))) (.dma (recvS k s'))
    (((Memref.isWhole_whole cc0_scratch0).wordExact_slice rfl _ (slotWords k s)).reshape _ _)
    (((Memref.isWhole_whole cc0_scratch0).wordExact_slice rfl _ (slotWords k s')).reshape _ _)
    ⟨⟨rfl, Or.inl rfl⟩, trivial⟩)
/-- Read slot `s`. -/
def loadSlot (k : Fin 4) (s : Fin 2) : P F (Vec F S1x1x512x2048 .bf16) :=
  Prog.lift (.load bufsM (slotR k s).toLoadRect (View.loadsAt_vmem h_S1x1x512x2048))
/-- Write slot `s`. -/
def storeSlot (k : Fin 4) (s : Fin 2) (v : Vec F S1x1x512x2048 .bf16) : P F PUnit :=
  Prog.lift (.store bufsM (slotR k s) v Finset.univ
    (View.stores_vmem h_S1x1x512x2048 ((Memref.isWhole_whole cc0_scratch0).storeExact_slice rfl _ (slotPacked k s)) (fun _ => rfl))
    (.inl rfl))
/-- Read a block of rows of `x`. -/
def loadX (o : Fin 2 → ℕ) (h : ∀ a, o a + S512x512.size a ≤ S4096x512.size a) : P F (Vec F S512x512 .fp8e4m3) :=
  Prog.lift (.load xM (Rect.unit (s := S4096x512) o S512x512.size h).toLoadRect (View.loadsAt_vmem h_S512x512))
/-- Read stream `k`'s columns of `w`. -/
def loadW (k : Fin 4) : P F (Vec F S512x2048 .fp8e5m2) :=
  Prog.lift (.load wM (Rect.unit (s := S512x8192) ![0, 2048 * k.val] S512x2048.size (colInb k)).toLoadRect (View.loadsAt_vmem h_S512x2048))
/-- Read the staging tile. -/
def loadPch (k : Fin 4) : P F (Vec F S1x512x2048 .f32) :=
  Prog.lift (.load pchM (pchR k).toLoadRect (View.loadsAt_vmem h_S1x512x2048))
/-- Write the staging tile. -/
def storePch (k : Fin 4) (v : Vec F S1x512x2048 .f32) : P F PUnit :=
  Prog.lift (.store pchM (pchR k) v Finset.univ (View.stores_vmem_bits_univ h_S1x512x2048 rfl) (.inl rfl))
/-- Start storing the staging tile to the result. -/
def putTile (k : Fin 4) (o : Fin 2 → ℕ) (h : ∀ a, o a + S512x2048.size a ≤ S4096x8192.size a) : P F PUnit :=
  Prog.lift (.enqueueDma (pch k) (.here (tile o h)) (.dma (storeS k)) ((View.wordExact_bits rfl).reshape _ _) (View.wordExact_bits rfl) ⟨Or.inl rfl, trivial⟩)
/-- Wait for a store to have finished. -/
def waitTile (k : Fin 4) (o : Fin 2 → ℕ) (h : ∀ a, o a + S512x2048.size a ≤ S4096x8192.size a) : P F PUnit :=
  Prog.lift (.waitDma2 (storeS k) (pch k) (tile o h) ((View.wordExact_bits rfl).reshape _ _) (View.wordExact_bits rfl))

/-- The end of a step: the sent slot is free again, say so upstream, wait to be allowed, send on. -/
def passOn (k : Fin 4) (s s' : Fin 2) (dC dS : Dev nD) : P F PUnit := do
  waitSend k s s'
  semSignalWord dC (credS k) 1#32
  semWaitWord (credS k) 1#32
  send k s s' dS

/-- The first chunk of a stream. -/
def initStep (k : Fin 4) (o : Fin 2 → ℕ) (h : ∀ a, o a + S512x512.size a ≤ S4096x512.size a) (dS : Dev nD) : P F PUnit := do
  let x ← loadX o h
  let w ← loadW k
  let _ ← loadSlot k 0
  storeSlot k 0 (lift4 (initV x w))
  send k 0 1 dS

/-- A step that adds this device's product to the chunk received. -/
def addStep (k : Fin 4) (s s' : Fin 2) (o : Fin 2 → ℕ) (h : ∀ a, o a + S512x512.size a ≤ S4096x512.size a) (dC dS : Dev nD) : P F PUnit := do
  waitRecv k s s'
  let a ← loadSlot k s
  let x ← loadX o h
  let w ← loadW k
  let _ ← loadSlot k s
  storeSlot k s (lift4 (accV (drop4 a) x w))
  passOn k s s' dC dS

/-- The step that finishes a tile. -/
def finStep (sc : F .f32) (k : Fin 4) (s s' : Fin 2) (o : Fin 2 → ℕ) (h : ∀ a, o a + S512x512.size a ≤ S4096x512.size a)
    (q : Fin 2 → ℕ) (hq : ∀ a, q a + S512x2048.size a ≤ S4096x8192.size a) (dC dS : Dev nD) : P F PUnit := do
  waitRecv k s s'
  let a ← loadSlot k s
  let x ← loadX o h
  let w ← loadW k
  let _ ← loadSlot k s
  storeSlot k s (lift4 (narrowV (yV sc (drop4 a) x w)))
  let _ ← loadPch k
  storePch k (lift3 (yV sc (drop4 a) x w))
  putTile k q hq
  passOn k s s' dC dS

/-- A step that stores a finished tile received: up to the start of the store. -/
def gatherHead (k : Fin 4) (s s' : Fin 2) (p : Fin 2 → ℕ) (hp : ∀ a, p a + S512x2048.size a ≤ S4096x8192.size a)
    (q : Fin 2 → ℕ) (hq : ∀ a, q a + S512x2048.size a ≤ S4096x8192.size a) (r : P F PUnit) : P F PUnit := do
  waitRecv k s s'
  waitTile k p hp
  let a ← loadSlot k s
  let _ ← loadPch k
  storePch k (lift3 (widenV (drop4 a)))
  putTile k q hq
  r

/-- A step that stores a finished tile received and sends it on. -/
def gatherStep (k : Fin 4) (s s' : Fin 2) (p : Fin 2 → ℕ) (hp : ∀ a, p a + S512x2048.size a ≤ S4096x8192.size a)
    (q : Fin 2 → ℕ) (hq : ∀ a, q a + S512x2048.size a ≤ S4096x8192.size a) (dC dS : Dev nD) : P F PUnit :=
  gatherHead k s s' p hp q hq (passOn k s s' dC dS)

/-- The last step of a stream. -/
def lastStep (k : Fin 4) (s s' : Fin 2) (p : Fin 2 → ℕ) (hp : ∀ a, p a + S512x2048.size a ≤ S4096x8192.size a)
    (q : Fin 2 → ℕ) (hq : ∀ a, q a + S512x2048.size a ≤ S4096x8192.size a) : P F PUnit :=
  gatherHead k s s' p hp q hq (waitSend k s s')

/-- A device's own program after it has read its number, the scales and the barrier: as printed. -/
def printed (d0 : Dev nD) (sc : F .f32) : List (P F PUnit) :=
  [ initStep 0 (k0_off1 d0) (k0_off1_inb d0) ⟨k0_dev3 d0, k0_dev3_lt d0⟩,
    initStep 1 (k0_off1 d0) (k0_off1_inb d0) ⟨k0_dev4 d0, k0_dev4_lt d0⟩,
    initStep 2 (k0_off1 d0) (k0_off1_inb d0) ⟨k0_dev5 d0, k0_dev5_lt d0⟩,
    initStep 3 (k0_off1 d0) (k0_off1_inb d0) ⟨k0_dev6 d0, k0_dev6_lt d0⟩,
    addStep 0 1 0 (k0_off2 d0 7#32) (k0_off2_inb d0 6) ⟨k0_dev7 d0, k0_dev7_lt d0⟩ ⟨k0_dev8 d0, k0_dev8_lt d0⟩,
    addStep 1 1 0 (k0_off2 d0 7#32) (k0_off2_inb d0 6) ⟨k0_dev9 d0, k0_dev9_lt d0⟩ ⟨k0_dev10 d0, k0_dev10_lt d0⟩,
    addStep 2 1 0 (k0_off2 d0 1#32) (k0_off2_inb d0 0) ⟨k0_dev11 d0, k0_dev11_lt d0⟩ ⟨k0_dev12 d0, k0_dev12_lt d0⟩,
    addStep 3 1 0 (k0_off2 d0 1#32) (k0_off2_inb d0 0) ⟨k0_dev13 d0, k0_dev13_lt d0⟩ ⟨k0_dev14 d0, k0_dev14_lt d0⟩,
    addStep 0 0 1 (k0_off2 d0 6#32) (k0_off2_inb d0 5) ⟨k0_dev15 d0, k0_dev15_lt d0⟩ ⟨k0_dev16 d0, k0_dev16_lt d0⟩,
    addStep 1 0 1 (k0_off2 d0 6#32) (k0_off2_inb d0 5) ⟨k0_dev17 d0, k0_dev17_lt d0⟩ ⟨k0_dev18 d0, k0_dev18_lt d0⟩,
    addStep 2 0 1 (k0_off2 d0 2#32) (k0_off2_inb d0 1) ⟨k0_dev19 d0, k0_dev19_lt d0⟩ ⟨k0_dev20 d0, k0_dev20_lt d0⟩,
    addStep 3 0 1 (k0_off2 d0 2#32) (k0_off2_inb d0 1) ⟨k0_dev21 d0, k0_dev21_lt d0⟩ ⟨k0_dev22 d0, k0_dev22_lt d0⟩,
    addStep 0 1 0 (k0_off2 d0 5#32) (k0_off2_inb d0 4) ⟨k0_dev23 d0, k0_dev23_lt d0⟩ ⟨k0_dev24 d0, k0_dev24_lt d0⟩,
    addStep 1 1 0 (k0_off2 d0 5#32) (k0_off2_inb d0 4) ⟨k0_dev25 d0, k0_dev25_lt d0⟩ ⟨k0_dev26 d0, k0_dev26_lt d0⟩,
    addStep 2 1 0 (k0_off2 d0 3#32) (k0_off2_inb d0 2) ⟨k0_dev27 d0, k0_dev27_lt d0⟩ ⟨k0_dev28 d0, k0_dev28_lt d0⟩,
    addStep 3 1 0 (k0_off2 d0 3#32) (k0_off2_inb d0 2) ⟨k0_dev29 d0, k0_dev29_lt d0⟩ ⟨k0_dev30 d0, k0_dev30_lt d0⟩,
    addStep 0 0 1 (k0_off2 d0 4#32) (k0_off2_inb d0 3) ⟨k0_dev31 d0, k0_dev31_lt d0⟩ ⟨k0_dev32 d0, k0_dev32_lt d0⟩,
    addStep 1 0 1 (k0_off2 d0 4#32) (k0_off2_inb d0 3) ⟨k0_dev33 d0, k0_dev33_lt d0⟩ ⟨k0_dev34 d0, k0_dev34_lt d0⟩,
    addStep 2 0 1 (k0_off2 d0 4#32) (k0_off2_inb d0 3) ⟨k0_dev35 d0, k0_dev35_lt d0⟩ ⟨k0_dev36 d0, k0_dev36_lt d0⟩,
    addStep 3 0 1 (k0_off2 d0 4#32) (k0_off2_inb d0 3) ⟨k0_dev37 d0, k0_dev37_lt d0⟩ ⟨k0_dev38 d0, k0_dev38_lt d0⟩,
    addStep 0 1 0 (k0_off2 d0 3#32) (k0_off2_inb d0 2) ⟨k0_dev39 d0, k0_dev39_lt d0⟩ ⟨k0_dev40 d0, k0_dev40_lt d0⟩,
    addStep 1 1 0 (k0_off2 d0 3#32) (k0_off2_inb d0 2) ⟨k0_dev41 d0, k0_dev41_lt d0⟩ ⟨k0_dev42 d0, k0_dev42_lt d0⟩,
    addStep 2 1 0 (k0_off2 d0 5#32) (k0_off2_inb d0 4) ⟨k0_dev43 d0, k0_dev43_lt d0⟩ ⟨k0_dev44 d0, k0_dev44_lt d0⟩,
    addStep 3 1 0 (k0_off2 d0 5#32) (k0_off2_inb d0 4) ⟨k0_dev45 d0, k0_dev45_lt d0⟩ ⟨k0_dev46 d0, k0_dev46_lt d0⟩,
    addStep 0 0 1 (k0_off2 d0 2#32) (k0_off2_inb d0 1) ⟨k0_dev47 d0, k0_dev47_lt d0⟩ ⟨k0_dev48 d0, k0_dev48_lt d0⟩,
    addStep 1 0 1 (k0_off2 d0 2#32) (k0_off2_inb d0 1) ⟨k0_dev49 d0, k0_dev49_lt d0⟩ ⟨k0_dev50 d0, k0_dev50_lt d0⟩,
    addStep 2 0 1 (k0_off2 d0 6#32) (k0_off2_inb d0 5) ⟨k0_dev51 d0, k0_dev51_lt d0⟩ ⟨k0_dev52 d0, k0_dev52_lt d0⟩,
    addStep 3 0 1 (k0_off2 d0 6#32) (k0_off2_inb d0 5) ⟨k0_dev53 d0, k0_dev53_lt d0⟩ ⟨k0_dev54 d0, k0_dev54_lt d0⟩,
    finStep sc 0 1 0 (k0_off2 d0 1#32) (k0_off2_inb d0 0) (k0_off3 d0 1#32) (k0_off3_inb d0 0) ⟨k0_dev55 d0, k0_dev55_lt d0⟩ ⟨k0_dev56 d0, k0_dev56_lt d0⟩,
    finStep sc 1 1 0 (k0_off2 d0 1#32) (k0_off2_inb d0 0) (k0_off4 d0 1#32) (k0_off4_inb d0 0) ⟨k0_dev57 d0, k0_dev57_lt d0⟩ ⟨k0_dev58 d0, k0_dev58_lt d0⟩,
    finStep sc 2 1 0 (k0_off2 d0 7#32) (k0_off2_inb d0 6) (k0_off5 d0 7#32) (k0_off5_inb d0 7) ⟨k0_dev59 d0, k0_dev59_lt d0⟩ ⟨k0_dev60 d0, k0_dev60_lt d0⟩,
    finStep sc 3 1 0 (k0_off2 d0 7#32) (k0_off2_inb d0 6) (k0_off6 d0 7#32) (k0_off6_inb d0 7) ⟨k0_dev61 d0, k0_dev61_lt d0⟩ ⟨k0_dev62 d0, k0_dev62_lt d0⟩,
    gatherStep 0 0 1 (k0_off3 d0 1#32) (k0_off3_inb d0 0) (k0_off3 d0 8#32) (k0_off3_inb d0 7) ⟨k0_dev63 d0, k0_dev63_lt d0⟩ ⟨k0_dev64 d0, k0_dev64_lt d0⟩,
    gatherStep 1 0 1 (k0_off4 d0 1#32) (k0_off4_inb d0 0) (k0_off4 d0 8#32) (k0_off4_inb d0 7) ⟨k0_dev65 d0, k0_dev65_lt d0⟩ ⟨k0_dev66 d0, k0_dev66_lt d0⟩,
    gatherStep 2 0 1 (k0_off5 d0 7#32) (k0_off5_inb d0 7) (k0_off5 d0 0#32) (k0_off5_inb d0 0) ⟨k0_dev67 d0, k0_dev67_lt d0⟩ ⟨k0_dev68 d0, k0_dev68_lt d0⟩,
    gatherStep 3 0 1 (k0_off6 d0 7#32) (k0_off6_inb d0 7) (k0_off6 d0 0#32) (k0_off6_inb d0 0) ⟨k0_dev69 d0, k0_dev69_lt d0⟩ ⟨k0_dev70 d0, k0_dev70_lt d0⟩,
    gatherStep 0 1 0 (k0_off3 d0 8#32) (k0_off3_inb d0 7) (k0_off3 d0 7#32) (k0_off3_inb d0 6) ⟨k0_dev71 d0, k0_dev71_lt d0⟩ ⟨k0_dev72 d0, k0_dev72_lt d0⟩,
    gatherStep 1 1 0 (k0_off4 d0 8#32) (k0_off4_inb d0 7) (k0_off4 d0 7#32) (k0_off4_inb d0 6) ⟨k0_dev73 d0, k0_dev73_lt d0⟩ ⟨k0_dev74 d0, k0_dev74_lt d0⟩,
    gatherStep 2 1 0 (k0_off5 d0 0#32) (k0_off5_inb d0 0) (k0_off5 d0 1#32) (k0_off5_inb d0 1) ⟨k0_dev75 d0, k0_dev75_lt d0⟩ ⟨k0_dev76 d0, k0_dev76_lt d0⟩,
    gatherStep 3 1 0 (k0_off6 d0 0#32) (k0_off6_inb d0 0) (k0_off6 d0 1#32) (k0_off6_inb d0 1) ⟨k0_dev77 d0, k0_dev77_lt d0⟩ ⟨k0_dev78 d0, k0_dev78_lt d0⟩,
    gatherStep 0 0 1 (k0_off3 d0 7#32) (k0_off3_inb d0 6) (k0_off3 d0 6#32) (k0_off3_inb d0 5) ⟨k0_dev79 d0, k0_dev79_lt d0⟩ ⟨k0_dev80 d0, k0_dev80_lt d0⟩,
    gatherStep 1 0 1 (k0_off4 d0 7#32) (k0_off4_inb d0 6) (k0_off4 d0 6#32) (k0_off4_inb d0 5) ⟨k0_dev81 d0, k0_dev81_lt d0⟩ ⟨k0_dev82 d0, k0_dev82_lt d0⟩,
    gatherStep 2 0 1 (k0_off5 d0 1#32) (k0_off5_inb d0 1) (k0_off5 d0 2#32) (k0_off5_inb d0 2) ⟨k0_dev83 d0, k0_dev83_lt d0⟩ ⟨k0_dev84 d0, k0_dev84_lt d0⟩,
    gatherStep 3 0 1 (k0_off6 d0 1#32) (k0_off6_inb d0 1) (k0_off6 d0 2#32) (k0_off6_inb d0 2) ⟨k0_dev85 d0, k0_dev85_lt d0⟩ ⟨k0_dev86 d0, k0_dev86_lt d0⟩,
    gatherStep 0 1 0 (k0_off3 d0 6#32) (k0_off3_inb d0 5) (k0_off3 d0 5#32) (k0_off3_inb d0 4) ⟨k0_dev87 d0, k0_dev87_lt d0⟩ ⟨k0_dev88 d0, k0_dev88_lt d0⟩,
    gatherStep 1 1 0 (k0_off4 d0 6#32) (k0_off4_inb d0 5) (k0_off4 d0 5#32) (k0_off4_inb d0 4) ⟨k0_dev89 d0, k0_dev89_lt d0⟩ ⟨k0_dev90 d0, k0_dev90_lt d0⟩,
    gatherStep 2 1 0 (k0_off5 d0 2#32) (k0_off5_inb d0 2) (k0_off5 d0 3#32) (k0_off5_inb d0 3) ⟨k0_dev91 d0, k0_dev91_lt d0⟩ ⟨k0_dev92 d0, k0_dev92_lt d0⟩,
    gatherStep 3 1 0 (k0_off6 d0 2#32) (k0_off6_inb d0 2) (k0_off6 d0 3#32) (k0_off6_inb d0 3) ⟨k0_dev93 d0, k0_dev93_lt d0⟩ ⟨k0_dev94 d0, k0_dev94_lt d0⟩,
    gatherStep 0 0 1 (k0_off3 d0 5#32) (k0_off3_inb d0 4) (k0_off3 d0 4#32) (k0_off3_inb d0 3) ⟨k0_dev95 d0, k0_dev95_lt d0⟩ ⟨k0_dev96 d0, k0_dev96_lt d0⟩,
    gatherStep 1 0 1 (k0_off4 d0 5#32) (k0_off4_inb d0 4) (k0_off4 d0 4#32) (k0_off4_inb d0 3) ⟨k0_dev97 d0, k0_dev97_lt d0⟩ ⟨k0_dev98 d0, k0_dev98_lt d0⟩,
    gatherStep 2 0 1 (k0_off5 d0 3#32) (k0_off5_inb d0 3) (k0_off5 d0 4#32) (k0_off5_inb d0 4) ⟨k0_dev99 d0, k0_dev99_lt d0⟩ ⟨k0_dev100 d0, k0_dev100_lt d0⟩,
    gatherStep 3 0 1 (k0_off6 d0 3#32) (k0_off6_inb d0 3) (k0_off6 d0 4#32) (k0_off6_inb d0 4) ⟨k0_dev101 d0, k0_dev101_lt d0⟩ ⟨k0_dev102 d0, k0_dev102_lt d0⟩,
    gatherStep 0 1 0 (k0_off3 d0 4#32) (k0_off3_inb d0 3) (k0_off3 d0 3#32) (k0_off3_inb d0 2) ⟨k0_dev103 d0, k0_dev103_lt d0⟩ ⟨k0_dev104 d0, k0_dev104_lt d0⟩,
    gatherStep 1 1 0 (k0_off4 d0 4#32) (k0_off4_inb d0 3) (k0_off4 d0 3#32) (k0_off4_inb d0 2) ⟨k0_dev105 d0, k0_dev105_lt d0⟩ ⟨k0_dev106 d0, k0_dev106_lt d0⟩,
    gatherStep 2 1 0 (k0_off5 d0 4#32) (k0_off5_inb d0 4) (k0_off5 d0 5#32) (k0_off5_inb d0 5) ⟨k0_dev107 d0, k0_dev107_lt d0⟩ ⟨k0_dev108 d0, k0_dev108_lt d0⟩,
    gatherStep 3 1 0 (k0_off6 d0 4#32) (k0_off6_inb d0 4) (k0_off6 d0 5#32) (k0_off6_inb d0 5) ⟨k0_dev109 d0, k0_dev109_lt d0⟩ ⟨k0_dev110 d0, k0_dev110_lt d0⟩,
    lastStep 0 0 1 (k0_off3 d0 3#32) (k0_off3_inb d0 2) (k0_off3 d0 2#32) (k0_off3_inb d0 1),
    lastStep 1 0 1 (k0_off4 d0 3#32) (k0_off4_inb d0 2) (k0_off4 d0 2#32) (k0_off4_inb d0 1),
    lastStep 2 0 1 (k0_off5 d0 5#32) (k0_off5_inb d0 5) (k0_off5 d0 6#32) (k0_off5_inb d0 6),
    lastStep 3 0 1 (k0_off6 d0 5#32) (k0_off6_inb d0 5) (k0_off6 d0 6#32) (k0_off6_inb d0 6),
    waitTile 0 (k0_off3 d0 2#32) (k0_off3_inb d0 1),
    waitTile 1 (k0_off4 d0 2#32) (k0_off4_inb d0 1),
    waitTile 2 (k0_off5 d0 6#32) (k0_off5_inb d0 6),
    waitTile 3 (k0_off6 d0 6#32) (k0_off6_inb d0 6) ]

/-- The body: the scales, the barrier with both neighbours, then the blocks. -/
def body (blocks : Dev nD → F .f32 → List (P F PUnit)) (dL dR : Dev nD → Dev nD) : P F PUnit := do
  let d0 ← Prog.lift .deviceId
  let a ← smemLoad sxM (Rect.unit (s := S1) ![0] S1.size inb_S1_S1_0) numel1_S1 rfl
  let b ← smemLoad swM (Rect.unit (s := S1) ![0] S1.size inb_S1_S1_0) numel1_S1 rfl
  semSignalWord (dL d0) barS 1#32
  semSignalWord (dR d0) barS 1#32
  semWaitWord barS 2#32
  Pipeline.chain (blocks d0 (Scalar.mulf a b))

set_option maxRecDepth 65536 in
set_option maxHeartbeats 0 in
/-- The printed body is the sequence of blocks. -/
theorem bodyAt_printed :
    bodyAt0 (F := F) t0_0 = body printed (fun d0 => ⟨k0_dev1 d0, k0_dev1_lt d0⟩) (fun d0 => ⟨k0_dev2 d0, k0_dev2_lt d0⟩) := by
  chain_rfl

end Cert.Collective

end
-- ==== Proof.Canon.lean ====
/- The kernel body in closed form: the neighbours and the chunks of every step as functions of the device's number. -/
module

public import proofs.«01_k».proof.Proof.Blocks

@[expose] public section

noncomputable section

namespace Cert.Collective

open Cert.KernelIdeal Cert.KernelIdeal.Gen
open Idealize.ShloMosaic Idealize.ShloMosaic.TcCoe
open Idealize.SL Idealize.SL.Sem

variable {F : FTy → Type} [FloatOps F]

/-! ## Neighbours and chunks -/

/-- The neighbour to the left. -/
def lft (c : Dev nD) : Dev nD := ⟨(c.val + 7) % 8, Nat.mod_lt _ (by decide)⟩
/-- The neighbour to the right. -/
def rgt (c : Dev nD) : Dev nD := ⟨(c.val + 1) % 8, Nat.mod_lt _ (by decide)⟩
/-- The neighbour a stream's chunks go to. -/
def dn (k : Fin 4) (c : Dev nD) : Dev nD := if k.val < 2 then rgt c else lft c
/-- The neighbour a stream's chunks come from. -/
def up (k : Fin 4) (c : Dev nD) : Dev nD := if k.val < 2 then lft c else rgt c

theorem lft_rgt (c : Dev nD) : lft (rgt c) = c := by revert c; decide
theorem rgt_lft (c : Dev nD) : rgt (lft c) = c := by revert c; decide
theorem up_dn (k : Fin 4) (c : Dev nD) : up k (dn k c) = c := by revert k c; decide
theorem dn_up (k : Fin 4) (c : Dev nD) : dn k (up k c) = c := by revert k c; decide

/-- The slot a step's chunk is sent from. -/
def sl (g : ℕ) : Fin 2 := ⟨g % 2, Nat.mod_lt _ (by decide)⟩

/-- The chunk of rows a device adds at a step before the tile is finished. -/
def rsC (c : Dev nD) (k : Fin 4) (g : ℕ) : Fin 8 :=
  ⟨(c.val + (if k.val < 2 then 6 - g else g) + 1) % 8, Nat.mod_lt _ (by decide)⟩
/-- The chunk of rows a device stores at a step from the one that finishes its own. -/
def agC (c : Dev nD) (k : Fin 4) (g : ℕ) : Fin 8 :=
  if k.val < 2 then ⟨(c.val + (if g = 6 then 0 else 14 - g) + 1) % 8, Nat.mod_lt _ (by decide)⟩
  else ⟨(c.val + (if g = 6 then 7 else g - 7)) % 8, Nat.mod_lt _ (by decide)⟩

/-- Where a chunk of rows of `x` starts. -/
def xOff (j : Fin 8) : Fin 2 → ℕ := ![512 * j.val, 0]
theorem xInb (j : Fin 8) : ∀ a, xOff j a + S512x512.size a ≤ S4096x512.size a := by revert j; decide
/-- Where a tile of the result starts. -/
def tOff (k : Fin 4) (j : Fin 8) : Fin 2 → ℕ := ![512 * j.val, 2048 * k.val]
theorem tInb (k : Fin 4) (j : Fin 8) : ∀ a, tOff k j a + S512x2048.size a ≤ S4096x8192.size a := by revert k j; decide

/-! ## The blocks -/

/-- The first chunk of stream `k`. -/
def initK (c : Dev nD) (k : Fin 4) : P F PUnit := initStep k (xOff ⟨c.val, c.isLt⟩) (xInb _) (dn k c)
/-- Step `g` of stream `k`. -/
def stepK (c : Dev nD) (sc : F .f32) (k : Fin 4) (g : ℕ) : P F PUnit :=
  if g < 6 then addStep k (sl (g + 1)) (sl g) (xOff (rsC c k g)) (xInb _) (up k c) (dn k c)
  else if g = 6 then
    finStep sc k (sl (g + 1)) (sl g) (xOff (rsC c k g)) (xInb _) (tOff k (agC c k g)) (tInb _ _) (up k c) (dn k c)
  else if g < 13 then
    gatherStep k (sl (g + 1)) (sl g) (tOff k (agC c k (g - 1))) (tInb _ _) (tOff k (agC c k g)) (tInb _ _) (up k c) (dn k c)
  else lastStep k (sl (g + 1)) (sl g) (tOff k (agC c k (g - 1))) (tInb _ _) (tOff k (agC c k g)) (tInb _ _)
/-- The stream of the block numbered `T`. -/
def kOf (T : ℕ) : Fin 4 := ⟨T % 4, Nat.mod_lt _ (by decide)⟩

/-- The four first chunks. -/
def initBlk (c : Dev nD) (T : ℕ) : P F PUnit := initK c (kOf T)
/-- The block numbered `T`: step `T / 4` of stream `T % 4`. -/
def blk (c : Dev nD) (sc : F .f32) (T : ℕ) : P F PUnit := stepK c sc (kOf T) (T / 4)
/-- The last waits: each stream's last store. -/
def endBlk (c : Dev nD) (T : ℕ) : P F PUnit := waitTile (kOf T) (tOff (kOf T) (agC c (kOf T) 13)) (tInb _ _)

/-- All the blocks. -/
def blocks (c : Dev nD) (sc : F .f32) : List (P F PUnit) :=
  (List.range' 0 4).map (initBlk c) ++ ((List.range' 0 56).map (blk c sc) ++ (List.range' 0 4).map (endBlk c))

theorem cons_congr {α : Type 1} {a b : α} {l l' : List α} (h : a = b) (t : l = l') : a :: l = b :: l' := by rw [h, t]

theorem initStep_eq {k : Fin 4} {o o' : Fin 2 → ℕ} {h : ∀ a, o a + S512x512.size a ≤ S4096x512.size a}
    {h' : ∀ a, o' a + S512x512.size a ≤ S4096x512.size a} {d d' : Dev nD} (ho : o = o') (hd : d = d') :
    initStep (F := F) k o h d = initStep k o' h' d' := by subst ho hd; rfl
theorem addStep_eq {k : Fin 4} {s s' : Fin 2} {o o' : Fin 2 → ℕ} {h : ∀ a, o a + S512x512.size a ≤ S4096x512.size a}
    {h' : ∀ a, o' a + S512x512.size a ≤ S4096x512.size a} {d d' e e' : Dev nD} (ho : o = o') (hd : d = d') (he : e = e') :
    addStep (F := F) k s s' o h d e = addStep k s s' o' h' d' e' := by subst ho hd he; rfl
theorem finStep_eq {sc : F .f32} {k : Fin 4} {s s' : Fin 2} {o o' : Fin 2 → ℕ} {h : ∀ a, o a + S512x512.size a ≤ S4096x512.size a}
    {h' : ∀ a, o' a + S512x512.size a ≤ S4096x512.size a} {q q' : Fin 2 → ℕ} {hq : ∀ a, q a + S512x2048.size a ≤ S4096x8192.size a}
    {hq' : ∀ a, q' a + S512x2048.size a ≤ S4096x8192.size a} {d d' e e' : Dev nD} (ho : o = o') (hqq : q = q') (hd : d = d') (he : e = e') :
    finStep sc k s s' o h q hq d e = finStep sc k s s' o' h' q' hq' d' e' := by subst ho hqq hd he; rfl
theorem gatherStep_eq {k : Fin 4} {s s' : Fin 2} {o o' : Fin 2 → ℕ} {h : ∀ a, o a + S512x2048.size a ≤ S4096x8192.size a}
    {h' : ∀ a, o' a + S512x2048.size a ≤ S4096x8192.size a} {q q' : Fin 2 → ℕ} {hq : ∀ a, q a + S512x2048.size a ≤ S4096x8192.size a}
    {hq' : ∀ a, q' a + S512x2048.size a ≤ S4096x8192.size a} {d d' e e' : Dev nD} (ho : o = o') (hqq : q = q') (hd : d = d') (he : e = e') :
    gatherStep (F := F) k s s' o h q hq d e = gatherStep k s s' o' h' q' hq' d' e' := by subst ho hqq hd he; rfl
theorem lastStep_eq {k : Fin 4} {s s' : Fin 2} {o o' : Fin 2 → ℕ} {h : ∀ a, o a + S512x2048.size a ≤ S4096x8192.size a}
    {h' : ∀ a, o' a + S512x2048.size a ≤ S4096x8192.size a} {q q' : Fin 2 → ℕ} {hq : ∀ a, q a + S512x2048.size a ≤ S4096x8192.size a}
    {hq' : ∀ a, q' a + S512x2048.size a ≤ S4096x8192.size a} (ho : o = o') (hqq : q = q') :
    lastStep (F := F) k s s' o h q hq = lastStep k s s' o' h' q' hq' := by subst ho hqq; rfl
theorem waitTile_eq {k : Fin 4} {o o' : Fin 2 → ℕ} {h : ∀ a, o a + S512x2048.size a ≤ S4096x8192.size a}
    {h' : ∀ a, o' a + S512x2048.size a ≤ S4096x8192.size a} (ho : o = o') :
    waitTile (F := F) k o h = waitTile k o' h' := by subst ho; rfl

set_option maxRecDepth 65536 in
set_option maxHeartbeats 0 in
/-- The printed blocks are the blocks in closed form. -/
theorem printed_eq (d0 : Dev nD) (sc : F .f32) : printed d0 sc = blocks d0 sc := by
  refine Eq.trans (b := [initBlk d0 0, initBlk d0 1, initBlk d0 2, initBlk d0 3, blk d0 sc 0, blk d0 sc 1, blk d0 sc 2, blk d0 sc 3, blk d0 sc 4, blk d0 sc 5, blk d0 sc 6, blk d0 sc 7, blk d0 sc 8, blk d0 sc 9, blk d0 sc 10, blk d0 sc 11, blk d0 sc 12, blk d0 sc 13, blk d0 sc 14, blk d0 sc 15, blk d0 sc 16, blk d0 sc 17, blk d0 sc 18, blk d0 sc 19, blk d0 sc 20, blk d0 sc 21, blk d0 sc 22, blk d0 sc 23, blk d0 sc 24, blk d0 sc 25, blk d0 sc 26, blk d0 sc 27, blk d0 sc 28, blk d0 sc 29, blk d0 sc 30, blk d0 sc 31, blk d0 sc 32, blk d0 sc 33, blk d0 sc 34, blk d0 sc 35, blk d0 sc 36, blk d0 sc 37, blk d0 sc 38, blk d0 sc 39, blk d0 sc 40, blk d0 sc 41, blk d0 sc 42, blk d0 sc 43, blk d0 sc 44, blk d0 sc 45, blk d0 sc 46, blk d0 sc 47, blk d0 sc 48, blk d0 sc 49, blk d0 sc 50, blk d0 sc 51, blk d0 sc 52, blk d0 sc 53, blk d0 sc 54, blk d0 sc 55, endBlk d0 0, endBlk d0 1, endBlk d0 2, endBlk d0 3]) ?_ rfl
  exact cons_congr (initStep_eq (k0_off1_eq d0) (Fin.ext (k0_dev3_eq d0))) <|
    cons_congr (initStep_eq (k0_off1_eq d0) (Fin.ext (k0_dev4_eq d0))) <|
    cons_congr (initStep_eq (k0_off1_eq d0) (Fin.ext (k0_dev5_eq d0))) <|
    cons_congr (initStep_eq (k0_off1_eq d0) (Fin.ext (k0_dev6_eq d0))) <|
    cons_congr (addStep_eq (k0_off2_eq d0 6) (Fin.ext (k0_dev7_eq d0)) (Fin.ext (k0_dev8_eq d0))) <|
    cons_congr (addStep_eq (k0_off2_eq d0 6) (Fin.ext (k0_dev9_eq d0)) (Fin.ext (k0_dev10_eq d0))) <|
    cons_congr (addStep_eq (k0_off2_eq d0 0) (Fin.ext (k0_dev11_eq d0)) (Fin.ext (k0_dev12_eq d0))) <|
    cons_congr (addStep_eq (k0_off2_eq d0 0) (Fin.ext (k0_dev13_eq d0)) (Fin.ext (k0_dev14_eq d0))) <|
    cons_congr (addStep_eq (k0_off2_eq d0 5) (Fin.ext (k0_dev15_eq d0)) (Fin.ext (k0_dev16_eq d0))) <|
    cons_congr (addStep_eq (k0_off2_eq d0 5) (Fin.ext (k0_dev17_eq d0)) (Fin.ext (k0_dev18_eq d0))) <|
    cons_congr (addStep_eq (k0_off2_eq d0 1) (Fin.ext (k0_dev19_eq d0)) (Fin.ext (k0_dev20_eq d0))) <|
    cons_congr (addStep_eq (k0_off2_eq d0 1) (Fin.ext (k0_dev21_eq d0)) (Fin.ext (k0_dev22_eq d0))) <|
    cons_congr (addStep_eq (k0_off2_eq d0 4) (Fin.ext (k0_dev23_eq d0)) (Fin.ext (k0_dev24_eq d0))) <|
    cons_congr (addStep_eq (k0_off2_eq d0 4) (Fin.ext (k0_dev25_eq d0)) (Fin.ext (k0_dev26_eq d0))) <|
    cons_congr (addStep_eq (k0_off2_eq d0 2) (Fin.ext (k0_dev27_eq d0)) (Fin.ext (k0_dev28_eq d0))) <|
    cons_congr (addStep_eq (k0_off2_eq d0 2) (Fin.ext (k0_dev29_eq d0)) (Fin.ext (k0_dev30_eq d0))) <|
    cons_congr (addStep_eq (k0_off2_eq d0 3) (Fin.ext (k0_dev31_eq d0)) (Fin.ext (k0_dev32_eq d0))) <|
    cons_congr (addStep_eq (k0_off2_eq d0 3) (Fin.ext (k0_dev33_eq d0)) (Fin.ext (k0_dev34_eq d0))) <|
    cons_congr (addStep_eq (k0_off2_eq d0 3) (Fin.ext (k0_dev35_eq d0)) (Fin.ext (k0_dev36_eq d0))) <|
    cons_congr (addStep_eq (k0_off2_eq d0 3) (Fin.ext (k0_dev37_eq d0)) (Fin.ext (k0_dev38_eq d0))) <|
    cons_congr (addStep_eq (k0_off2_eq d0 2) (Fin.ext (k0_dev39_eq d0)) (Fin.ext (k0_dev40_eq d0))) <|
    cons_congr (addStep_eq (k0_off2_eq d0 2) (Fin.ext (k0_dev41_eq d0)) (Fin.ext (k0_dev42_eq d0))) <|
    cons_congr (addStep_eq (k0_off2_eq d0 4) (Fin.ext (k0_dev43_eq d0)) (Fin.ext (k0_dev44_eq d0))) <|
    cons_congr (addStep_eq (k0_off2_eq d0 4) (Fin.ext (k0_dev45_eq d0)) (Fin.ext (k0_dev46_eq d0))) <|
    cons_congr (addStep_eq (k0_off2_eq d0 1) (Fin.ext (k0_dev47_eq d0)) (Fin.ext (k0_dev48_eq d0))) <|
    cons_congr (addStep_eq (k0_off2_eq d0 1) (Fin.ext (k0_dev49_eq d0)) (Fin.ext (k0_dev50_eq d0))) <|
    cons_congr (addStep_eq (k0_off2_eq d0 5) (Fin.ext (k0_dev51_eq d0)) (Fin.ext (k0_dev52_eq d0))) <|
    cons_congr (addStep_eq (k0_off2_eq d0 5) (Fin.ext (k0_dev53_eq d0)) (Fin.ext (k0_dev54_eq d0))) <|
    cons_congr (finStep_eq (k0_off2_eq d0 0) (k0_off3_eq d0 0) (Fin.ext (k0_dev55_eq d0)) (Fin.ext (k0_dev56_eq d0))) <|
    cons_congr (finStep_eq (k0_off2_eq d0 0) (k0_off4_eq d0 0) (Fin.ext (k0_dev57_eq d0)) (Fin.ext (k0_dev58_eq d0))) <|
    cons_congr (finStep_eq (k0_off2_eq d0 6) (k0_off5_eq d0 7) (Fin.ext (k0_dev59_eq d0)) (Fin.ext (k0_dev60_eq d0))) <|
    cons_congr (finStep_eq (k0_off2_eq d0 6) (k0_off6_eq d0 7) (Fin.ext (k0_dev61_eq d0)) (Fin.ext (k0_dev62_eq d0))) <|
    cons_congr (gatherStep_eq (k0_off3_eq d0 0) (k0_off3_eq d0 7) (Fin.ext (k0_dev63_eq d0)) (Fin.ext (k0_dev64_eq d0))) <|
    cons_congr (gatherStep_eq (k0_off4_eq d0 0) (k0_off4_eq d0 7) (Fin.ext (k0_dev65_eq d0)) (Fin.ext (k0_dev66_eq d0))) <|
    cons_congr (gatherStep_eq (k0_off5_eq d0 7) (k0_off5_eq d0 0) (Fin.ext (k0_dev67_eq d0)) (Fin.ext (k0_dev68_eq d0))) <|
    cons_congr (gatherStep_eq (k0_off6_eq d0 7) (k0_off6_eq d0 0) (Fin.ext (k0_dev69_eq d0)) (Fin.ext (k0_dev70_eq d0))) <|
    cons_congr (gatherStep_eq (k0_off3_eq d0 7) (k0_off3_eq d0 6) (Fin.ext (k0_dev71_eq d0)) (Fin.ext (k0_dev72_eq d0))) <|
    cons_congr (gatherStep_eq (k0_off4_eq d0 7) (k0_off4_eq d0 6) (Fin.ext (k0_dev73_eq d0)) (Fin.ext (k0_dev74_eq d0))) <|
    cons_congr (gatherStep_eq (k0_off5_eq d0 0) (k0_off5_eq d0 1) (Fin.ext (k0_dev75_eq d0)) (Fin.ext (k0_dev76_eq d0))) <|
    cons_congr (gatherStep_eq (k0_off6_eq d0 0) (k0_off6_eq d0 1) (Fin.ext (k0_dev77_eq d0)) (Fin.ext (k0_dev78_eq d0))) <|
    cons_congr (gatherStep_eq (k0_off3_eq d0 6) (k0_off3_eq d0 5) (Fin.ext (k0_dev79_eq d0)) (Fin.ext (k0_dev80_eq d0))) <|
    cons_congr (gatherStep_eq (k0_off4_eq d0 6) (k0_off4_eq d0 5) (Fin.ext (k0_dev81_eq d0)) (Fin.ext (k0_dev82_eq d0))) <|
    cons_congr (gatherStep_eq (k0_off5_eq d0 1) (k0_off5_eq d0 2) (Fin.ext (k0_dev83_eq d0)) (Fin.ext (k0_dev84_eq d0))) <|
    cons_congr (gatherStep_eq (k0_off6_eq d0 1) (k0_off6_eq d0 2) (Fin.ext (k0_dev85_eq d0)) (Fin.ext (k0_dev86_eq d0))) <|
    cons_congr (gatherStep_eq (k0_off3_eq d0 5) (k0_off3_eq d0 4) (Fin.ext (k0_dev87_eq d0)) (Fin.ext (k0_dev88_eq d0))) <|
    cons_congr (gatherStep_eq (k0_off4_eq d0 5) (k0_off4_eq d0 4) (Fin.ext (k0_dev89_eq d0)) (Fin.ext (k0_dev90_eq d0))) <|
    cons_congr (gatherStep_eq (k0_off5_eq d0 2) (k0_off5_eq d0 3) (Fin.ext (k0_dev91_eq d0)) (Fin.ext (k0_dev92_eq d0))) <|
    cons_congr (gatherStep_eq (k0_off6_eq d0 2) (k0_off6_eq d0 3) (Fin.ext (k0_dev93_eq d0)) (Fin.ext (k0_dev94_eq d0))) <|
    cons_congr (gatherStep_eq (k0_off3_eq d0 4) (k0_off3_eq d0 3) (Fin.ext (k0_dev95_eq d0)) (Fin.ext (k0_dev96_eq d0))) <|
    cons_congr (gatherStep_eq (k0_off4_eq d0 4) (k0_off4_eq d0 3) (Fin.ext (k0_dev97_eq d0)) (Fin.ext (k0_dev98_eq d0))) <|
    cons_congr (gatherStep_eq (k0_off5_eq d0 3) (k0_off5_eq d0 4) (Fin.ext (k0_dev99_eq d0)) (Fin.ext (k0_dev100_eq d0))) <|
    cons_congr (gatherStep_eq (k0_off6_eq d0 3) (k0_off6_eq d0 4) (Fin.ext (k0_dev101_eq d0)) (Fin.ext (k0_dev102_eq d0))) <|
    cons_congr (gatherStep_eq (k0_off3_eq d0 3) (k0_off3_eq d0 2) (Fin.ext (k0_dev103_eq d0)) (Fin.ext (k0_dev104_eq d0))) <|
    cons_congr (gatherStep_eq (k0_off4_eq d0 3) (k0_off4_eq d0 2) (Fin.ext (k0_dev105_eq d0)) (Fin.ext (k0_dev106_eq d0))) <|
    cons_congr (gatherStep_eq (k0_off5_eq d0 4) (k0_off5_eq d0 5) (Fin.ext (k0_dev107_eq d0)) (Fin.ext (k0_dev108_eq d0))) <|
    cons_congr (gatherStep_eq (k0_off6_eq d0 4) (k0_off6_eq d0 5) (Fin.ext (k0_dev109_eq d0)) (Fin.ext (k0_dev110_eq d0))) <|
    cons_congr (lastStep_eq (k0_off3_eq d0 2) (k0_off3_eq d0 1)) <|
    cons_congr (lastStep_eq (k0_off4_eq d0 2) (k0_off4_eq d0 1)) <|
    cons_congr (lastStep_eq (k0_off5_eq d0 5) (k0_off5_eq d0 6)) <|
    cons_congr (lastStep_eq (k0_off6_eq d0 5) (k0_off6_eq d0 6)) <|
    cons_congr (waitTile_eq (k0_off3_eq d0 1)) <|
    cons_congr (waitTile_eq (k0_off4_eq d0 1)) <|
    cons_congr (waitTile_eq (k0_off5_eq d0 6)) <|
    cons_congr (waitTile_eq (k0_off6_eq d0 6)) <|
    rfl

/-- The printed body is the sequence of blocks in closed form. -/
theorem bodyAt_eq : bodyAt0 (F := F) t0_0 = body blocks lft rgt := by
  rw [bodyAt_printed]
  have h1 : (fun d0 : Dev nD => (⟨k0_dev1 d0, k0_dev1_lt d0⟩ : Dev nD)) = lft := funext fun d0 => Fin.ext (k0_dev1_eq d0)
  have h2 : (fun d0 : Dev nD => (⟨k0_dev2 d0, k0_dev2_lt d0⟩ : Dev nD)) = rgt := funext fun d0 => Fin.ext (k0_dev2_eq d0)
  rw [h1, h2, show (printed (F := F)) = blocks from funext fun d => funext fun s => printed_eq d s]

end Cert.Collective

end
-- ==== Proof.Sched.lean ====
/- The protocol: what each semaphore's rounds carry, what is owed, and the order of the waits. -/
module

public import proofs.«01_k».proof.Proof.Canon
public import Idealize.ShloMosaic.Lib.Pipeline.Launch
public import Idealize.ShloMosaic.Lib.Pipeline.Kit
public import Idealize.ShloMosaic.Lib.Tactic

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

abbrev recvCell (c : Dev nD) (k : Fin 4) (s : Fin 2) : GSem nD τ sig := ((c : Thread nD τ), .dma (recvS k s))
abbrev sendCell (c : Dev nD) (k : Fin 4) (s : Fin 2) : GSem nD τ sig := ((c : Thread nD τ), .dma (sendS k s))
abbrev storeCell (c : Dev nD) (k : Fin 4) : GSem nD τ sig := ((c : Thread nD τ), .dma (storeS k))
abbrev credCell (c : Dev nD) (k : Fin 4) : GSem nD τ sig := ((c : Thread nD τ), .reg (credS k))
abbrev barCell (c : Dev nD) : GSem nD τ sig := ((c : Thread nD τ), .reg barS)

/-- A device's cells: the barrier, and six per stream. -/
abbrev CI : Type := Option (Fin 4 × Fin 6)
/-- The semaphore of a cell. -/
def csem : CI → SemLoc sig
  | none => .reg barS
  | some (k, j) => (![.dma (recvS k 0), .dma (recvS k 1), .dma (sendS k 0), .dma (sendS k 1), .reg (credS k), .dma (storeS k)] : Fin 6 → SemLoc sig) j

/-- The cell a semaphore is. -/
def dec : SemLoc sig → Option CI
  | .reg i => if h : i.val < 4 then some (some (⟨i.val, h⟩, 4)) else some none
  | .dma i =>
    if i.val < 4 then none
    else if i.val < 12 then some (some (⟨(i.val - 4) / 2 % 4, Nat.mod_lt _ (by decide)⟩, ⟨2 + (i.val - 4) % 2, by omega⟩))
    else if i.val < 20 then some (some (⟨(i.val - 12) / 2 % 4, Nat.mod_lt _ (by decide)⟩, ⟨(i.val - 12) % 2, by omega⟩))
    else some (some (⟨(i.val - 20) % 4, Nat.mod_lt _ (by decide)⟩, 5))

theorem dec_recv (k : Fin 4) (s : Fin 2) : dec (.dma (recvS k s)) = some (some (k, ⟨s.val, by omega⟩)) := by revert k s; decide
theorem dec_send (k : Fin 4) (s : Fin 2) : dec (.dma (sendS k s)) = some (some (k, ⟨2 + s.val, by omega⟩)) := by revert k s; decide
theorem dec_cred (k : Fin 4) : dec (.reg (credS k)) = some (some (k, 4)) := by revert k; decide
theorem dec_store (k : Fin 4) : dec (.dma (storeS k)) = some (some (k, 5)) := by revert k; decide
theorem dec_bar : dec (.reg barS) = some none := by decide
theorem dec_csem (x : CI) : dec (csem x) = some x := by revert x; decide

/-! ## Values -/

/-- What the values depend on: per device the staged blocks of `x` and `w`, and the scale. -/
structure Vals (F : FTy → Type) where
  X : Dev nD → (cc0_stg0_0 : Ref sig .tc).ty.Contents (Elt F)
  Y : Dev nD → (cc0_stg1_0 : Ref sig .tc).ty.Contents (Elt F)
  sc : Dev nD → F .f32
/-- A device's chunk of rows of `x`. -/
def Vals.x (V : Vals F) (c : Dev nD) (j : Fin 8) : Vec F S512x512 .fp8e4m3 :=
  xM.view.readAt (Elt F) (Rect.unit (s := S4096x512) (xOff j) S512x512.size (xInb j)).toLoadRect (V.X c)
/-- A device's columns of `w` for a stream. -/
def Vals.w (V : Vals F) (c : Dev nD) (k : Fin 4) : Vec F S512x2048 .fp8e5m2 :=
  wM.view.readAt (Elt F) (Rect.unit (s := S512x8192) ![0, 2048 * k.val] S512x2048.size (colInb k)).toLoadRect (V.Y c)

/-- The chunk device `c` sends on stream `k` as its `g`-th. -/
def sent (V : Vals F) (k : Fin 4) : ℕ → Dev nD → FVec F S512x2048 .bf16
  | 0, c => initV (V.x c ⟨c.val, c.isLt⟩) (V.w c k)
  | g + 1, c =>
    if g < 6 then accV (sent V k g (up k c)) (V.x c (rsC c k g)) (V.w c k)
    else if g = 6 then narrowV (yV (V.sc c) (sent V k g (up k c)) (V.x c (rsC c k g)) (V.w c k))
    else sent V k g (up k c)
/-- The tile device `c` stores at step `g` of stream `k`. -/
def outT (V : Vals F) (k : Fin 4) (g : ℕ) (c : Dev nD) : FVec F S512x2048 .f32 :=
  if g = 6 then yV (V.sc c) (sent V k g (up k c)) (V.x c (rsC c k g)) (V.w c k) else widenV (sent V k g (up k c))

/-! ## Buffers -/

def slotPts (c : Dev nD) (k : Fin 4) (s : Fin 2) (f : Buf (Elt F) ((slot k s).view.loc (c : Thread nD τ))) : sProp 𝕄 :=
  (slot k s).view.loc (c : Thread nD τ) ↦[(slot k s).view.set]{fullShare} f
def slotAny (c : Dev nD) (k : Fin 4) (s : Fin 2) : sProp 𝕄 := iprop(∃ f, slotPts (F := F) c k s f)
def slotIs (c : Dev nD) (k : Fin 4) (s : Fin 2) (v : FVec F S512x2048 .bf16) : sProp 𝕄 :=
  iprop(∃ f, ⌜(slot k s).view.read (Elt F) f = v⌝ ∗ slotPts (F := F) c k s f)
def pchPts (c : Dev nD) (k : Fin 4) (f : Buf (Elt F) ((pch k).view.loc (c : Thread nD τ))) : sProp 𝕄 :=
  (pch k).view.loc (c : Thread nD τ) ↦[(pch k).view.set]{fullShare} f
def pchAny (c : Dev nD) (k : Fin 4) : sProp 𝕄 := iprop(∃ f, pchPts (F := F) c k f)
/-- The tile of stream `k` and chunk `j`. -/
abbrev tl (k : Fin 4) (j : Fin 8) : Memref sig .tc .hbm S512x2048 .f32 := tile (tOff k j) (tInb k j)
def tilePts (c : Dev nD) (k : Fin 4) (j : Fin 8) (f : Buf (Elt F) ((tl k j).view.loc (c : Thread nD τ))) : sProp 𝕄 :=
  (tl k j).view.loc (c : Thread nD τ) ↦[(tl k j).view.set]{fullShare} f
def tileAny (c : Dev nD) (k : Fin 4) (j : Fin 8) : sProp 𝕄 := iprop(∃ f, tilePts (F := F) c k j f)
def tileIs (c : Dev nD) (k : Fin 4) (j : Fin 8) (v : FVec F S512x2048 .f32) : sProp 𝕄 :=
  iprop(∃ f, ⌜(tl k j).view.read (Elt F) f = v⌝ ∗ tilePts (F := F) c k j f)

omit [FloatOps F] in
instance slotPts_storable (c : Dev nD) (k : Fin 4) (s : Fin 2) (f) : BI.Storable (upEmb : UEmb _ 𝕄) (slotPts (F := F) c k s f) := by
  unfold slotPts; infer_instance
omit [FloatOps F] in
instance pchPts_storable (c : Dev nD) (k : Fin 4) (f) : BI.Storable (upEmb : UEmb _ 𝕄) (pchPts (F := F) c k f) := by
  unfold pchPts; infer_instance
omit [FloatOps F] in
instance tilePts_storable (c : Dev nD) (k : Fin 4) (j : Fin 8) (f) : BI.Storable (upEmb : UEmb _ 𝕄) (tilePts (F := F) c k j f) := by
  unfold tilePts; infer_instance

/-! ## The schedule -/

/-- What the two barrier signals hand over: from the right neighbour its second slots of the streams that go right,
    from the left neighbour those of the streams that go left. -/
def barPay (c : Dev nD) (d : Bool) : sProp 𝕄 :=
  if d then iprop(slotAny (F := F) (lft c) 2 1 ∗ slotAny (F := F) (lft c) 3 1) else iprop(slotAny (F := F) (rgt c) 0 1 ∗ slotAny (F := F) (rgt c) 1 1)
/-- A chunk's arrival: the slot with the chunk, and how far the sender is with its credits. -/
def recvPay (V : Vals F) (c : Dev nD) (k : Fin 4) (s : Fin 2) (g : ℕ) : sProp 𝕄 :=
  iprop(slotIs c k s (sent V k g (up k c)) ∗ reached ER (credCell (up k c) k) g)
/-- A credit: the slot the next chunk may be sent to, and how far its receiver is. -/
def credPay (c : Dev nD) (k : Fin 4) (g : ℕ) : sProp 𝕄 :=
  iprop(slotAny (F := F) (dn k c) k (sl g) ∗ reached ER (recvCell (dn k c) k (sl g)) ((g + 1) / 2))
/-- A store's end: the staging tile, and the tile of the result with its value. -/
def storePay (V : Vals F) (c : Dev nD) (k : Fin 4) (g : ℕ) : sProp 𝕄 :=
  iprop(pchAny (F := F) c k ∗ tileIs c k (agC c k g) (outT V k g c))

/-- The payload of one of the six cells of a stream. -/
def payK (V : Vals F) (c : Dev nD) (k : Fin 4) (j : ℕ) (r : ℕ) : sProp 𝕄 :=
  match j with
  | 0 => recvPay V c k 0 (2 * r + 1)
  | 1 => recvPay V c k 1 (2 * r)
  | 2 => slotAny (F := F) c k 0
  | 3 => slotAny (F := F) c k 1
  | 4 => credPay (F := F) c k r
  | _ => storePay V c k (r + 6)

/-- The credit of a chunk's transfer. -/
abbrev N : ℕ := (slot 0 0).view.dmaCredit
/-- The credit of a store. -/
abbrev NS : ℕ := (tl 0 0).view.dmaCredit
theorem N_pos : 0 < N := View.dmaCredit_pos _ (by decide)
theorem NS_pos : 0 < NS := View.dmaCredit_pos _ (by decide)

/-- How many rounds a cell of a stream has. -/
def lim : ℕ → ℕ
  | 4 => 13
  | 5 => 8
  | _ => 7
/-- How much a round of a cell of a stream is. -/
def amt : ℕ → ℕ
  | 4 => 1
  | 5 => NS
  | _ => N
theorem amt_pos (j : ℕ) : 0 < amt j := by
  unfold amt; split
  · decide
  · exact NS_pos
  · exact N_pos

/-- The rounds of every cell. -/
def rd (V : Vals F) : Rounds.Schedule (GSem nD τ sig) Bool 𝕄 where
  duties g r := if g.1.2 = .tc then
      (match dec g.2 with
        | none => ∅
        | some none => if r = 0 then Finset.univ else ∅
        | some (some (k, j)) => if r < lim j.val then {false} else ∅)
    else ∅
  unitless _ := False
  amount g _ _ := match dec g.2 with
    | some (some (k, j)) => amt j.val
    | _ => 1
  payload g r d := match dec g.2 with
    | none => iprop(emp)
    | some none => barPay g.1.1 d
    | some (some (k, j)) => payK V g.1.1 k j.val r
  amount_pos g _ _ _ := by
    split
    · exact amt_pos _
    · exact Nat.one_pos

omit [FloatOps F] in
instance slotAny_storable (c : Dev nD) (k : Fin 4) (s : Fin 2) : BI.Storable (upEmb : UEmb _ 𝕄) (slotAny (F := F) c k s) := by
  unfold slotAny; infer_instance
omit [FloatOps F] in
instance slotIs_storable (c : Dev nD) (k : Fin 4) (s : Fin 2) (v) : BI.Storable (upEmb : UEmb _ 𝕄) (slotIs (F := F) c k s v) := by
  unfold slotIs; infer_instance
omit [FloatOps F] in
instance pchAny_storable (c : Dev nD) (k : Fin 4) : BI.Storable (upEmb : UEmb _ 𝕄) (pchAny (F := F) c k) := by
  unfold pchAny; infer_instance
omit [FloatOps F] in
instance tileIs_storable (c : Dev nD) (k : Fin 4) (j : Fin 8) (v) : BI.Storable (upEmb : UEmb _ 𝕄) (tileIs (F := F) c k j v) := by
  unfold tileIs; infer_instance

instance payK_storable (V : Vals F) (c : Dev nD) (k : Fin 4) (j r : ℕ) : BI.Storable (upEmb : UEmb _ 𝕄) (payK V c k j r) := by
  unfold payK recvPay credPay storePay
  split <;> infer_instance

instance rd_payload_storable (V : Vals F) (g : GSem nD τ sig) (r : ℕ) (d : Bool) :
    BI.Storable (upEmb : UEmb _ 𝕄) ((rd V).payload g r d) := by
  show BI.Storable upEmb (match dec g.2 with
    | none => iprop(emp)
    | some none => barPay g.1.1 d
    | some (some (k, j)) => payK V g.1.1 k j.val r)
  unfold barPay
  (repeat' split) <;> infer_instance

section Sched
variable (V : Vals F) (c : Dev nD) (k : Fin 4) (s : Fin 2)

theorem duties_bar : (rd V).duties (barCell c) 0 = Finset.univ := by
  dsimp only [rd]; rw [dec_bar]; rfl
theorem duties_recv {r : ℕ} (h : r < 7) : (rd V).duties (recvCell c k s) r = {false} := by
  dsimp only [rd]; rw [dec_recv, if_pos rfl]; dsimp only
  have : lim s.val = 7 := by revert s; decide
  rw [this, if_pos h]
theorem duties_send {r : ℕ} (h : r < 7) : (rd V).duties (sendCell c k s) r = {false} := by
  dsimp only [rd]; rw [dec_send, if_pos rfl]; dsimp only
  have : lim (2 + s.val) = 7 := by revert s; decide
  rw [this, if_pos h]
theorem duties_cred {r : ℕ} (h : r < 13) : (rd V).duties (credCell c k) r = {false} := by
  dsimp only [rd]; rw [dec_cred, if_pos rfl]; exact if_pos h
theorem duties_store {r : ℕ} (h : r < 8) : (rd V).duties (storeCell c k) r = {false} := by
  dsimp only [rd]; rw [dec_store, if_pos rfl]; exact if_pos h

/-- How many rounds a cell has in all. -/
def limC : CI → ℕ
  | none => 1
  | some (_, j) => lim j.val
theorem duties_end (x : CI) : ∀ r, limC x ≤ r → (rd V).duties ((c : Thread nD τ), csem x) r = ∅ := by
  intro r h
  dsimp only [rd]; rw [dec_csem, if_pos rfl]
  match x, h with
  | none, h => exact if_neg (by have : 1 ≤ r := h; omega)
  | some (k, j), h => exact if_neg (Nat.not_lt.mpr h)

theorem amount_bar (r : ℕ) (d : Bool) : (rd V).amount (barCell c) r d = 1 := by dsimp only [rd]; rw [dec_bar]
theorem amount_cred (r : ℕ) (d : Bool) : (rd V).amount (credCell c k) r d = 1 := by dsimp only [rd]; rw [dec_cred]; rfl
theorem amount_store (r : ℕ) (d : Bool) : (rd V).amount (storeCell c k) r d = NS := by dsimp only [rd]; rw [dec_store]; rfl
theorem amt_recv : amt s.val = N := by match s with | 0 => rfl | 1 => rfl
theorem amt_send : amt (2 + s.val) = N := by match s with | 0 => rfl | 1 => rfl
theorem amount_recv (r : ℕ) (d : Bool) : (rd V).amount (recvCell c k s) r d = N := by dsimp only [rd]; rw [dec_recv]; exact amt_recv s
theorem amount_send (r : ℕ) (d : Bool) : (rd V).amount (sendCell c k s) r d = N := by dsimp only [rd]; rw [dec_send]; exact amt_send s

theorem expect_bar : (rd V).expect (barCell c) 0 = 2 := by
  unfold Schedule.expect Schedule.amountOf
  rw [duties_bar, Finset.sum_congr rfl fun d _ => amount_bar V c 0 d, Finset.sum_const, Finset.card_univ, Fintype.card_bool, smul_eq_mul]
theorem expect_recv {r : ℕ} (h : r < 7) : (rd V).expect (recvCell c k s) r = N := by
  unfold Schedule.expect Schedule.amountOf; rw [duties_recv V c k s h, Finset.sum_singleton, amount_recv]
theorem expect_send {r : ℕ} (h : r < 7) : (rd V).expect (sendCell c k s) r = N := by
  unfold Schedule.expect Schedule.amountOf; rw [duties_send V c k s h, Finset.sum_singleton, amount_send]
theorem expect_cred {r : ℕ} (h : r < 13) : (rd V).expect (credCell c k) r = 1 := by
  unfold Schedule.expect Schedule.amountOf; rw [duties_cred V c k h, Finset.sum_singleton, amount_cred]
theorem expect_store {r : ℕ} (h : r < 8) : (rd V).expect (storeCell c k) r = NS := by
  unfold Schedule.expect Schedule.amountOf; rw [duties_store V c k h, Finset.sum_singleton, amount_store]

theorem payload_bar (d : Bool) : (rd V).payload (barCell c) 0 d = barPay c d := by dsimp only [rd]; rw [dec_bar]
theorem payload_recv (g : ℕ) (d : Bool) : (rd V).payload (recvCell c k (sl (g + 1))) (g / 2) d = recvPay V c k (sl (g + 1)) g := by
  dsimp only [rd]; rw [dec_recv]
  rcases Nat.mod_two_eq_zero_or_one g with h | h
  · have h1 : sl (g + 1) = 1 := Fin.ext (by show (g + 1) % 2 = 1; omega)
    rw [h1]; show recvPay V c k 1 (2 * (g / 2)) = _
    rw [show 2 * (g / 2) = g by omega]
  · have h1 : sl (g + 1) = 0 := Fin.ext (by show (g + 1) % 2 = 0; omega)
    rw [h1]; show recvPay V c k 0 (2 * (g / 2) + 1) = _
    rw [show 2 * (g / 2) + 1 = g by omega]
theorem payload_send (r : ℕ) (d : Bool) : (rd V).payload (sendCell c k s) r d = slotAny c k s := by
  dsimp only [rd]; rw [dec_send]
  match s with
  | 0 => rfl
  | 1 => rfl
theorem payload_cred (g : ℕ) (d : Bool) : (rd V).payload (credCell c k) g d = credPay c k g := by
  dsimp only [rd]; rw [dec_cred]; rfl
theorem payload_store (r : ℕ) (d : Bool) : (rd V).payload (storeCell c k) r d = storePay V c k (r + 6) := by
  dsimp only [rd]; rw [dec_store]; rfl

theorem rest_bar : bigSep ((rd V).duties (barCell c) 0 \ ∅) (fun d => (rd V).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_recv {g : ℕ} (h : g < 14) : bigSep ((rd V).duties (recvCell c k (sl (g + 1))) (g / 2) \ ∅) (fun d => (rd V).payload (recvCell c k (sl (g + 1))) (g / 2) d)
    = recvPay V c k (sl (g + 1)) g := by
  rw [Finset.sdiff_empty, duties_recv V c k _ (by omega), bigSep_singleton, payload_recv]
theorem rest_send {r : ℕ} (h : r < 7) : bigSep ((rd V).duties (sendCell c k s) r \ ∅) (fun d => (rd V).payload (sendCell c k s) r d) = slotAny c k s := by
  rw [Finset.sdiff_empty, duties_send V c k s h, bigSep_singleton, payload_send]
theorem rest_cred {g : ℕ} (h : g < 13) : bigSep ((rd V).duties (credCell c k) g \ ∅) (fun d => (rd V).payload (credCell c k) g d) = credPay c k g := by
  rw [Finset.sdiff_empty, duties_cred V c k h, bigSep_singleton, payload_cred]
theorem rest_store {r : ℕ} (h : r < 8) : bigSep ((rd V).duties (storeCell c k) r \ ∅) (fun d => (rd V).payload (storeCell c k) r d) = storePay V c k (r + 6) := by
  rw [Finset.sdiff_empty, duties_store V c k h, bigSep_singleton, payload_store]

end Sched

/-! ## Levels and what is owed -/

/-- The indices at a core's cells. -/
def L (g : GSem nD τ sig) : Finset ℕ := if g.1.2 = .tc then Finset.range 14 else ∅
/-- The level of a cell at an index: arrivals and credits in the order of the blocks. -/
def lv (g : GSem nD τ sig) (u : ℕ) : ℕ :=
  match dec g.2 with
  | none => 0
  | some none => 1
  | some (some (k, j)) => if j.val < 2 then 2 * (4 * u + k.val) + 2 else if j.val = 4 then 2 * (4 * u + k.val) + 3 else 0

theorem lv_recv (c : Dev nD) (k : Fin 4) (s : Fin 2) (u : ℕ) : lv (recvCell c k s) u = 2 * (4 * u + k.val) + 2 := by
  unfold lv; rw [dec_recv]; exact if_pos s.isLt
theorem lv_send (c : Dev nD) (k : Fin 4) (s : Fin 2) (u : ℕ) : lv (sendCell c k s) u = 0 := by
  unfold lv; rw [dec_send]; dsimp only
  rw [if_neg (by omega), if_neg (by omega)]
theorem lv_cred (c : Dev nD) (k : Fin 4) (u : ℕ) : lv (credCell c k) u = 2 * (4 * u + k.val) + 3 := by
  unfold lv; rw [dec_cred]; rfl
theorem lv_store (c : Dev nD) (k : Fin 4) (u : ℕ) : lv (storeCell c k) u = 0 := by
  unfold lv; rw [dec_store]; rfl
theorem lv_bar (c : Dev nD) (u : ℕ) : lv (barCell c) u = 1 := by
  unfold lv; rw [dec_bar]

/-- What is owed lies on cores' cells, at indices in use, at level `n` or above. -/
def Above (n : ℕ) (O : CellTallies nD τ sig ℕ) : Prop := ∀ g u, 0 < O g u → g.1.2 = .tc ∧ u < 14 ∧ n ≤ lv g u

theorem above_zero (n : ℕ) : Above n 0 := fun g u h => absurd h (Nat.lt_irrefl 0)
theorem above_add {n : ℕ} {A B : CellTallies nD τ sig ℕ} (ha : Above n A) (hb : Above n B) : Above n (A + B) := by
  intro g u h
  rw [Pi.add_apply, Finsupp.add_apply] at h
  rcases Nat.eq_zero_or_pos (A g u) with h0 | h0
  · exact hb g u (by omega)
  · exact ha g u h0
theorem above_sum {n : ℕ} {I : Type} (S : Finset I) (A : I → CellTallies nD τ sig ℕ) (h : ∀ i ∈ S, Above n (A i)) : Above n (∑ i ∈ S, A i) := by
  classical
  induction S using Finset.induction_on with
  | empty => rw [Finset.sum_empty]; exact above_zero n
  | insert a S ha ih =>
    rw [Finset.sum_insert ha]
    exact above_add (h a (Finset.mem_insert_self _ _)) (ih fun i hi => h i (Finset.mem_insert_of_mem hi))
theorem above_tally {n : ℕ} {c : Dev nD} {sm : SemLoc sig} {u k : ℕ} (hu : u < 14) (hn : n ≤ lv ((c : Thread nD τ), sm) u) :
    Above n (tallyAt ((c : Thread nD τ), sm) u k) := by
  intro g u' h
  rw [tallyAt_apply] at h
  by_cases hg : g = ((c : Thread nD τ), sm) ∧ u' = u
  · obtain ⟨rfl, rfl⟩ := hg; exact ⟨rfl, hu, hn⟩
  · rw [if_neg hg] at h; exact absurd h (Nat.lt_irrefl 0)
theorem above_mono {n n' : ℕ} {O : CellTallies nD τ sig ℕ} (h : Above n' O) (hn : n ≤ n') : Above n O :=
  fun g u hg => ⟨(h g u hg).1, (h g u hg).2.1, hn.trans (h g u hg).2.2⟩

omit [FloatOps F] in
/-- A wait below all that is owed is allowed. -/
theorem mayWait (c : Dev nD) (sm : SemLoc sig) (u : ℕ) (hu : u < 14) {O : CellTallies nD τ sig ℕ} (hO : Above (lv ((c : Thread nD τ), sm) u + 1) O) :
    (levAts L lv : sProp 𝕄) ⊢ MayWait (c : Thread nD τ) sm u O :=
  MayOwe.of_cut (L := L) (lev := lv) (lv ((c : Thread nD τ), sm) u)
    (fun p hp => by rw [Finset.mem_singleton.mp hp]; show u ∈ L ((c : Thread nD τ), sm); rw [L, if_pos rfl]; exact Finset.mem_range.mpr hu)
    (fun g u' hg => by rw [L, if_pos (hO g u' hg).1]; exact Finset.mem_range.mpr (hO g u' hg).2.1)
    (fun p hp => by rw [Finset.mem_singleton.mp hp])
    (fun g u' hg => (hO g u' hg).2.2)

/-- An interval with its first element apart. -/
theorem Ico_first {a b : ℕ} (h : a < b) : Finset.Ico a b = insert a (Finset.Ico (a + 1) b) := by
  ext x; rw [Finset.mem_insert, Finset.mem_Ico, Finset.mem_Ico]; omega
theorem first_notMem (a b : ℕ) : a ∉ Finset.Ico (a + 1) b := fun h => by rw [Finset.mem_Ico] at h; omega
theorem sum_first {M : Type} [AddCommMonoid M] {a b : ℕ} (h : a < b) (f : ℕ → M) :
    ∑ i ∈ Finset.Ico a b, f i = f a + ∑ i ∈ Finset.Ico (a + 1) b, f i := by
  rw [Ico_first h, Finset.sum_insert (first_notMem a b)]
theorem bigSep_first {a b : ℕ} (h : a < b) (f : ℕ → sProp 𝕄) :
    bigSep (Finset.Ico a b) f = iprop(f a ∗ bigSep (Finset.Ico (a + 1) b) f) := by
  rw [Ico_first h]; exact bigSep_insert (first_notMem a b)

theorem bigSep_last {a b : ℕ} (h : a ≤ b) (f : ℕ → sProp 𝕄) :
    bigSep (Finset.Ico a (b + 1)) f = iprop(f b ∗ bigSep (Finset.Ico a b) f) := by
  rw [show Finset.Ico a (b + 1) = insert b (Finset.Ico a b) by ext x; rw [Finset.mem_insert, Finset.mem_Ico, Finset.mem_Ico]; omega]
  exact bigSep_insert (fun hb => by rw [Finset.mem_Ico] at hb; omega)

/-- What block `i` pays: a credit upstream and a chunk downstream. -/
def payR (c : Dev nD) (i : ℕ) : CellTallies nD τ sig ℕ := tallyAt (recvCell (dn (kOf i) c) (kOf i) (sl (i / 4))) (i / 4 + 1) N
def payC (c : Dev nD) (i : ℕ) : CellTallies nD τ sig ℕ := tallyAt (credCell (up (kOf i) c) (kOf i)) (i / 4) 1
/-- What is owed before block `T`. -/
def OT (c : Dev nD) (T : ℕ) : CellTallies nD τ sig ℕ := ∑ i ∈ Finset.Ico T 52, (payR c i + payC c i)
theorem OT_step (c : Dev nD) {T : ℕ} (h : T < 52) : OT c T = (OT c (T + 1) + payR c T) + payC c T := by
  unfold OT; rw [sum_first h, add_comm, add_assoc]
theorem OT_end (c : Dev nD) {T : ℕ} (h : 52 ≤ T) : OT c T = 0 := by
  unfold OT; rw [Finset.Ico_eq_empty (by omega), Finset.sum_empty]
theorem payR_above (c : Dev nD) {i : ℕ} (h : i < 52) : Above (2 * i + 10) (payR c i) :=
  above_tally (by omega) (by rw [lv_recv]; show _ ≤ 2 * (4 * (i / 4 + 1) + i % 4) + 2; omega)
theorem payC_above (c : Dev nD) {i : ℕ} (h : i < 52) : Above (2 * i + 3) (payC c i) :=
  above_tally (by omega) (by rw [lv_cred]; show _ ≤ 2 * (4 * (i / 4) + i % 4) + 3; omega)
theorem OT_above (c : Dev nD) (T : ℕ) : Above (2 * T + 3) (OT c T) := by
  refine above_sum _ _ fun i hi => ?_
  rw [Finset.mem_Ico] at hi
  exact above_add (above_mono (payR_above c hi.2) (by omega)) (above_mono (payC_above c hi.2) (by omega))

/-- What the first chunk of stream `k` pays. -/
def payI (c : Dev nD) (i : ℕ) : CellTallies nD τ sig ℕ := tallyAt (recvCell (dn (kOf i) c) (kOf i) 1) 0 N
/-- What is owed before the first chunk of stream `j`. -/
def OI (c : Dev nD) (j : ℕ) : CellTallies nD τ sig ℕ := OT c 0 + ∑ i ∈ Finset.Ico j 4, payI c i
theorem OI_step (c : Dev nD) {j : ℕ} (h : j < 4) : OI c j = OI c (j + 1) + payI c j := by
  unfold OI; rw [sum_first h, add_comm (payI c j), ← add_assoc]
theorem OI_end (c : Dev nD) : OI c 4 = OT c 0 := by unfold OI; rw [Finset.Ico_self, Finset.sum_empty, add_zero]
theorem OI_above (c : Dev nD) (j : ℕ) : Above 2 (OI c j) := by
  refine above_add (above_mono (OT_above c 0) (by omega)) (above_sum _ _ fun i hi => ?_)
  exact above_tally (by omega) (by rw [lv_recv]; omega)
/-- What is owed at the start. -/
def O1 (c : Dev nD) : CellTallies nD τ sig ℕ := OI c 0 + tallyAt (barCell (rgt c)) 0 1
def O0 (c : Dev nD) : CellTallies nD τ sig ℕ := O1 c + tallyAt (barCell (lft c)) 0 1
theorem O0_above (c : Dev nD) : Above 1 (O0 c) :=
  above_add (above_add (above_mono (OI_above c 0) (by omega)) (above_tally (by omega) (by rw [lv_bar])))
    (above_tally (by omega) (by rw [lv_bar]))

end Cert.Collective

end
-- ==== Proof.Ops.lean ====
/- The operations of a block, each with what it needs and what it leaves. -/
module

public import proofs.«01_k».proof.Proof.Sched
public import Idealize.ShloMosaic.Lib.Pipeline.Value

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- A program's weakest precondition on device `c`. -/
abbrev WP (c : Dev nD) {α : Type} (p : P F α) (Q : α → sProp 𝕄) : sProp 𝕄 :=
  wp frame (wpE (defs₀ (F := F)) 𝒱₀ (c : Thread nD τ) none) Set.univ p Q

/-! ## Views -/

theorem slot_set (k : Fin 4) (s : Fin 2) : (bufsM.access (slotR k s)).set = (slot k s).view.set :=
  (View.set_reshape (bufsM.access (slotR k s)) (s' := S512x2048) _).symm
theorem pch_set (k : Fin 4) : (pchM.access (pchR k)).set = (pch k).view.set :=
  (View.set_reshape (pchM.access (pchR k)) (s' := S512x2048) _).symm

omit [FloatOps F] in
theorem slot_read (k : Fin 4) (s : Fin 2) (f : (cc0_scratch0 : Ref sig .tc).ty.Contents (Elt F)) :
    drop4 (F := F) (bufsM.view.readAt (Elt F) (slotR k s).toLoadRect f) = (slot k s).view.read (Elt F) f := rfl
omit [FloatOps F] in
theorem slot_write (k : Fin 4) (s : Fin 2) (f : (cc0_scratch0 : Ref sig .tc).ty.Contents (Elt F)) (v : Vec F S512x2048 .bf16) :
    (slot k s).view.read (Elt F) ((bufsM.access (slotR k s)).write (Elt F) f (lift4 v) Finset.univ) = v := by
  have h : (slot k s).view.read (Elt F) ((bufsM.access (slotR k s)).write (Elt F) f (lift4 v) Finset.univ)
      = drop4 ((bufsM.access (slotR k s)).read (Elt F) ((bufsM.access (slotR k s)).write (Elt F) f (lift4 v) Finset.univ)) := rfl
  rw [h, View.read_write_univ]
  exact shapeCast_shapeCast v _ _
omit [FloatOps F] in
theorem pch_write (k : Fin 4) (f : (cc0_scratch1 : Ref sig .tc).ty.Contents (Elt F)) (v : Vec F S512x2048 .f32) :
    (pch k).view.read (Elt F) ((pchM.access (pchR k)).write (Elt F) f (lift3 v) Finset.univ) = v := by
  have h : (pch k).view.read (Elt F) ((pchM.access (pchR k)).write (Elt F) f (lift3 v) Finset.univ)
      = shapeCast S512x2048 ((pchM.access (pchR k)).read (Elt F) ((pchM.access (pchR k)).write (Elt F) f (lift3 v) Finset.univ)) shapeCasts_S1x512x2048_S512x2048 := rfl
  rw [h, View.read_write_univ]
  exact shapeCast_shapeCast v _ _

/-! ## Loads and stores -/

variable (V : Vals F) (c : Dev nD)

/-- The staged operands. -/
def stgX : sProp 𝕄 := (xM.view.loc (c : Thread nD τ)) ↦[Finset.univ]{fullShare} V.X c
def stgW : sProp 𝕄 := (wM.view.loc (c : Thread nD τ)) ↦[Finset.univ]{fullShare} V.Y c
def ops : sProp 𝕄 := iprop(stgX V c ∗ stgW V c)

section Mem
variable {α : Type}

theorem wp_loadX {Q : α → sProp 𝕄} (j : Fin 8) (k : Vec F S512x512 .fp8e4m3 → P F α) :
    ops V c ⊢ iprop((ops V c -∗ WP c (k (V.x c j)) Q) -∗ WP c (loadX (xOff j) (xInb j) >>= k) Q) := by
  unfold loadX ops stgX
  simp only [Prog.lift, Prog.bind_op, Prog.bind_ret]
  iintro ⟨HX, HW⟩ Hk
  iapply (wp_load 𝒱₀ (c : Thread nD τ) none Set.univ (m := xM) (Finset.subset_univ _)) $$ HX
  iintro HX
  iapply Hk
  isplitl [HX] <;> iassumption
theorem wp_loadW {Q : α → sProp 𝕄} (s : Fin 4) (k : Vec F S512x2048 .fp8e5m2 → P F α) :
    ops V c ⊢ iprop((ops V c -∗ WP c (k (V.w c s)) Q) -∗ WP c (loadW s >>= k) Q) := by
  unfold loadW ops stgW
  simp only [Prog.lift, Prog.bind_op, Prog.bind_ret]
  iintro ⟨HX, HW⟩ Hk
  iapply (wp_load 𝒱₀ (c : Thread nD τ) none Set.univ (m := wM) (Finset.subset_univ _)) $$ HW
  iintro HW
  iapply Hk
  isplitl [HX] <;> iassumption

theorem wp_loadSlot {Q : α → sProp 𝕄} (s : Fin 4) (t : Fin 2) (f) (k : Vec F S1x1x512x2048 .bf16 → P F α) :
    slotPts c s t f ⊢ iprop((slotPts c s t f -∗ WP c (k (bufsM.view.readAt (Elt F) (slotR s t).toLoadRect f)) Q) -∗ WP c (loadSlot s t >>= k) Q) := by
  unfold slotPts loadSlot
  exact wp_load 𝒱₀ (c : Thread nD τ) none Set.univ (m := bufsM) (r := (slotR s t).toLoadRect) (S := (slot s t).view.set) (f := f)
    (by rw [← slot_set]; exact (bufsM.view.set_slice (slotR s t)).ge)
theorem wp_storeSlot_pts {Q : α → sProp 𝕄} (s : Fin 4) (t : Fin 2) (f) (v : Vec F S512x2048 .bf16) (k : PUnit → P F α) :
    slotPts c s t f ⊢ iprop((slotPts c s t ((bufsM.access (slotR s t)).write (Elt F) f (lift4 v) Finset.univ) -∗ WP c (k ⟨⟩) Q)
      -∗ WP c (storeSlot s t (lift4 v) >>= k) Q) := by
  unfold slotPts storeSlot
  exact wp_store 𝒱₀ (c : Thread nD τ) none Set.univ (m := bufsM) (r := slotR s t) (w := lift4 v) (Mk := Finset.univ)
    (S := (slot s t).view.set) (f := f) (by rw [← slot_set]; exact subset_rfl)
theorem wp_storeSlot {Q : α → sProp 𝕄} (s : Fin 4) (t : Fin 2) (f) (v : Vec F S512x2048 .bf16) (k : PUnit → P F α) :
    slotPts c s t f ⊢ iprop((slotIs c s t v -∗ WP c (k ⟨⟩) Q) -∗ WP c (storeSlot s t (lift4 v) >>= k) Q) := by
  unfold slotIs
  iintro H Hk
  iapply (wp_storeSlot_pts c s t f v k) $$ H
  iintro H
  iapply Hk
  iexists _
  isplitr; · ipureintro; exact slot_write s t f v
  iexact H
theorem wp_loadPch_pts {Q : α → sProp 𝕄} (s : Fin 4) (f) (k : Vec F S1x512x2048 .f32 → P F α) :
    pchPts c s f ⊢ iprop((pchPts c s f -∗ WP c (k (pchM.view.readAt (Elt F) (pchR s).toLoadRect f)) Q) -∗ WP c (loadPch s >>= k) Q) := by
  unfold pchPts loadPch
  exact wp_load 𝒱₀ (c : Thread nD τ) none Set.univ (m := pchM) (r := (pchR s).toLoadRect) (S := (pch s).view.set) (f := f)
    (by rw [← pch_set]; exact (pchM.view.set_slice (pchR s)).ge)
theorem wp_storePch_pts {Q : α → sProp 𝕄} (s : Fin 4) (f) (v : Vec F S512x2048 .f32) (k : PUnit → P F α) :
    pchPts c s f ⊢ iprop((pchPts c s ((pchM.access (pchR s)).write (Elt F) f (lift3 v) Finset.univ) -∗ WP c (k ⟨⟩) Q)
      -∗ WP c (storePch s (lift3 v) >>= k) Q) := by
  unfold pchPts storePch
  exact wp_store 𝒱₀ (c : Thread nD τ) none Set.univ (m := pchM) (r := pchR s) (w := lift3 v) (Mk := Finset.univ)
    (S := (pch s).view.set) (f := f) (by rw [← pch_set]; exact subset_rfl)

/-- The staging tile with a value. -/
def pchIs (c : Dev nD) (k : Fin 4) (v : FVec F S512x2048 .f32) : sProp 𝕄 :=
  iprop(∃ f, ⌜(pch k).view.read (Elt F) f = v⌝ ∗ pchPts (F := F) c k f)
/-- The staging tile read, its contents of no use, and then written. -/
theorem wp_fillPch {Q : α → sProp 𝕄} (s : Fin 4) (v : Vec F S512x2048 .f32) (k : PUnit → P F α) :
    pchAny c s ⊢ iprop((pchIs c s v -∗ WP c (k ⟨⟩) Q) -∗ WP c (loadPch s >>= fun _ => storePch s (lift3 v) >>= k) Q) := by
  unfold pchIs pchAny
  iintro ⟨%f, H⟩ Hk
  iapply (wp_loadPch_pts c s f) $$ H
  iintro H
  iapply (wp_storePch_pts c s f v k) $$ H
  iintro H
  iapply Hk
  iexists _
  isplitr; · ipureintro; exact pch_write s f v
  iexact H

end Mem

/-! ## The shared records -/

abbrev kcell (p : Dev nD × CI) : GSem nD τ sig := ((p.1 : Thread nD τ), csem p.2)

/-- Every cell's invariant, at its name, and that every cell has started. -/
def records (K : Dev nD × CI → ℕ) : sProp 𝕄 :=
  iprop((bigSep Finset.univ fun p : Dev nD × CI => cellInv ER (rd V) (K p) (kcell p))
    ∗ bigSep Finset.univ fun p : Dev nD × CI => reached ER (kcell p) 0)
instance records_persistent (K : Dev nD × CI → ℕ) : BI.Persistent (records V K) := by unfold records; infer_instance
/-- The records and the levels. -/
def ctx (K : Dev nD × CI → ℕ) : sProp 𝕄 := iprop(records V K ∗ levAts L lv)
instance ctx_persistent (K : Dev nD × CI → ℕ) : BI.Persistent (ctx V K) := by unfold ctx; infer_instance

/-- A core's debts, whatever it has waited for. -/
def owesAny (O : CellTallies nD τ sig ℕ) : sProp 𝕄 := iprop(∃ W, owes (c : Thread nD τ) O W)

abbrev ixR (k : Fin 4) (s : Fin 2) : CI := some (k, ⟨s.val, by omega⟩)
abbrev ixS (k : Fin 4) (s : Fin 2) : CI := some (k, ⟨2 + s.val, by omega⟩)
abbrev ixC (k : Fin 4) : CI := some (k, 4)
abbrev ixT (k : Fin 4) : CI := some (k, 5)
theorem csem_R (k : Fin 4) (s : Fin 2) : csem (ixR k s) = .dma (recvS k s) := by match s with | 0 => rfl | 1 => rfl
theorem csem_S (k : Fin 4) (s : Fin 2) : csem (ixS k s) = .dma (sendS k s) := by match s with | 0 => rfl | 1 => rfl

section Rec
variable (K : Dev nD × CI → ℕ)

theorem inv_at (x : CI) : ctx V K ⊢ cellInv ER (rd V) (K (c, x)) ((c : Thread nD τ), csem x) := by
  unfold ctx records
  have h : (bigSep Finset.univ fun p : Dev nD × CI => (cellInv ER (rd V) (K p) (kcell p) : sProp 𝕄)) ⊢ cellInv ER (rd V) (K (c, x)) ((c : Thread nD τ), csem x) :=
    bigSep_elim (Finset.mem_univ (c, x))
  iintro ⟨⟨H, -⟩, -⟩
  iapply h $$ H
theorem reached_at (x : CI) : ctx V K ⊢ reached ER ((c : Thread nD τ), csem x) 0 := by
  unfold ctx records
  have h : (bigSep Finset.univ fun p : Dev nD × CI => (reached ER (kcell p) 0 : sProp 𝕄)) ⊢ reached ER ((c : Thread nD τ), csem x) 0 :=
    bigSep_elim (Finset.mem_univ (c, x))
  iintro ⟨⟨-, H⟩, -⟩
  iapply h $$ H
theorem inv_R (k : Fin 4) (s : Fin 2) : ctx V K ⊢ cellInv ER (rd V) (K (c, ixR k s)) (recvCell c k s) := by
  have h := inv_at V c K (ixR k s); rw [csem_R] at h; exact h
theorem inv_S (k : Fin 4) (s : Fin 2) : ctx V K ⊢ cellInv ER (rd V) (K (c, ixS k s)) (sendCell c k s) := by
  have h := inv_at V c K (ixS k s); rw [csem_S] at h; exact h
theorem inv_C (k : Fin 4) : ctx V K ⊢ cellInv ER (rd V) (K (c, ixC k)) (credCell c k) := inv_at V c K (ixC k)
theorem inv_T (k : Fin 4) : ctx V K ⊢ cellInv ER (rd V) (K (c, ixT k)) (storeCell c k) := inv_at V c K (ixT k)
theorem inv_B : ctx V K ⊢ cellInv ER (rd V) (K (c, none)) (barCell c) := inv_at V c K none
theorem reached_R (k : Fin 4) (s : Fin 2) : ctx V K ⊢ reached ER (recvCell c k s) 0 := by
  have h := reached_at V c K (ixR k s); rw [csem_R] at h; exact h
theorem reached_S (k : Fin 4) (s : Fin 2) : ctx V K ⊢ reached ER (sendCell c k s) 0 := by
  have h := reached_at V c K (ixS k s); rw [csem_S] at h; exact h
theorem ctx_may (sm : SemLoc sig) (u : ℕ) (hu : u < 14) {O : CellTallies nD τ sig ℕ} (hO : Above (lv ((c : Thread nD τ), sm) u + 1) O) :
    ctx V K ⊢ MayWait (c : Thread nD τ) sm u O := by
  unfold ctx
  iintro ⟨-, H⟩
  iapply (mayWait c sm u hu hO) $$ H
end Rec

/-! ## Waits, signals and transfers -/

theorem N_eq (k : Fin 4) (s : Fin 2) : (slot k s).view.dmaCredit = N := rfl
theorem NS_eq (k : Fin 4) (j : Fin 8) : (tl k j).view.dmaCredit = NS := rfl

section Sync
variable {α : Type} (K : Dev nD × CI → ℕ)

/-- The wait for the chunk numbered `g`: its slot with the chunk, and how far its sender is. -/
theorem wp_waitRecv {Q : α → sProp 𝕄} (k : Fin 4) {g : ℕ} (hg : g < 14) (O : CellTallies nD τ sig ℕ) (hO : Above (2 * (4 * g + k.val) + 3) O) (p : PUnit → P F α) :
    iprop(ctx V K ∗ cred (tallyAt (recvCell c k (sl (g + 1))) g N) ∗ owesAny c O ∗ atPos ER (recvCell c k (sl (g + 1))) (g / 2) ∅ 0)
      ⊢ iprop(((owesAny c O ∗ atPos ER (recvCell c k (sl (g + 1))) (g / 2 + 1) ∅ 0 ∗ reached ER (recvCell c k (sl (g + 1))) (g / 2 + 1)
            ∗ slotIs c k (sl (g + 1)) (sent V k g (up k c)) ∗ reached ER (credCell (up k c) k) g) -∗ WP c (p ⟨⟩) Q)
          -∗ WP c (waitRecv k (sl (g + 1)) (sl g) >>= p) Q) := by
  unfold waitRecv owesAny
  simp only [Prog.lift, Prog.bind_op, Prog.bind_ret]
  iintro ⟨#HC, Hc, ⟨%W, HO⟩, Hat⟩ Hk
  iapply (Rounds.wp_wait_rest_token 𝒱₀ ER (rd V) (c : Thread nD τ) none (κ := K (c, ixR k (sl (g + 1))))
      (wpE_waitDma2_eq 𝒱₀ (c : Thread nD τ) none Set.univ) (Set.mem_univ _) g (O := O) (W := W) (R := g / 2) (m := 0) (T := ∅)
      (by rw [Nat.zero_add, expect_recv V c k _ (by omega)])) $$ [Hc HO Hat]
  · isplitr; · iapply (inv_R V c K k (sl (g + 1))); iexact HC
    isplitl [Hc]; · iexact Hc
    isplitl [HO]; · iexact HO
    isplitr; · iapply (ctx_may V c K (.dma (recvS k (sl (g + 1)))) g hg (by rw [lv_recv]; exact hO)); iexact HC
    iexact Hat
  iintro ⟨HO, Hat, Hr, Hpay⟩
  ihave Hp := (Entails.of_eq (rest_recv V c k hg)) $$ Hpay
  unfold recvPay
  icases Hp with ⟨Hs, Hrc⟩
  iapply Hk
  isplitl [HO]; · iexists _; iexact HO
  isplitl [Hat]; · iexact Hat
  isplitl [Hr]; · iexact Hr
  isplitl [Hs] <;> iassumption

/-- The wait for a slot to have been sent: the slot. -/
theorem wp_waitSend {Q : α → sProp 𝕄} (k : Fin 4) (s s' : Fin 2) {r u : ℕ} (hr : r < 7) (hu : u < 14) (O : CellTallies nD τ sig ℕ) (hO : Above 1 O) (p : PUnit → P F α) :
    iprop(ctx V K ∗ cred (tallyAt (sendCell c k s') u N) ∗ owesAny c O ∗ atPos ER (sendCell c k s') r ∅ 0)
      ⊢ iprop(((owesAny c O ∗ atPos ER (sendCell c k s') (r + 1) ∅ 0 ∗ reached ER (sendCell c k s') (r + 1)
            ∗ slotAny c k s') -∗ WP c (p ⟨⟩) Q)
          -∗ WP c (waitSend k s s' >>= p) Q) := by
  unfold waitSend owesAny
  simp only [Prog.lift, Prog.bind_op, Prog.bind_ret]
  iintro ⟨#HC, Hc, ⟨%W, HO⟩, Hat⟩ Hk
  iapply (Rounds.wp_wait_rest_token 𝒱₀ ER (rd V) (c : Thread nD τ) none (κ := K (c, ixS k s'))
      (wpE_waitDma2_eq 𝒱₀ (c : Thread nD τ) none Set.univ) (Set.mem_univ _) u (O := O) (W := W) (R := r) (m := 0) (T := ∅)
      (by rw [Nat.zero_add, expect_send V c k _ hr])) $$ [Hc HO Hat]
  · isplitr; · iapply (inv_S V c K k s'); iexact HC
    isplitl [Hc]; · iexact Hc
    isplitl [HO]; · iexact HO
    isplitr; · iapply (ctx_may V c K (.dma (sendS k s')) u hu (by rw [lv_send]; exact hO)); iexact HC
    iexact Hat
  iintro ⟨HO, Hat, Hr, Hpay⟩
  ihave Hp := (Entails.of_eq (rest_send V c k s' hr)) $$ Hpay
  iapply Hk
  isplitl [HO]; · iexists _; iexact HO
  isplitl [Hat]; · iexact Hat
  isplitl [Hr] <;> iassumption

/-- A credit given: the slot goes upstream. -/
theorem wp_give {Q : α → sProp 𝕄} (k : Fin 4) {g : ℕ} (hg : g < 13) {O₀ : CellTallies nD τ sig ℕ} (O : CellTallies nD τ sig ℕ)
    (hO : O₀ = O + tallyAt (credCell (up k c) k) g 1) (p : PUnit → P F α) :
    iprop(ctx V K ∗ owesAny c O₀ ∗ dutyTok ER (credCell (up k c) k) g false ∗ slotAny c k (sl g)
        ∗ reached ER (recvCell c k (sl g)) ((g + 1) / 2) ∗ reached ER (credCell (up k c) k) g)
      ⊢ iprop((owesAny c O -∗ WP c (p ⟨⟩) Q) -∗ WP c (semSignalWord (up k c) (credS k) 1#32 >>= p) Q) := by
  unfold owesAny
  simp only [semSignalWord, Prog.lift, Prog.bind_op, Prog.bind_ret]
  iintro ⟨#HC, ⟨%W, HO⟩, Ht, Hs, Hr, Hrc⟩ Hk
  iapply (Rounds.wp_signal 𝒱₀ ER (rd V) (c : Thread nD τ) none (dst := (up k c : Thread nD τ)) (κ := K (up k c, ixC k))
      (r := g) (d := false) (by rw [duties_cred V _ k hg]; exact Finset.mem_singleton_self _) ((amount_cred V (up k c) k g false).trans (by decide)) g O hO)
    $$ [HO Ht Hs Hr Hrc]
  · isplitr; · iapply (inv_C V (up k c) K k); iexact HC
    isplitl [HO]; · iexact HO
    isplitl [Ht]; · iexact Ht
    isplitl [Hs Hr]
    · rw [payload_cred]; unfold credPay; rw [dn_up]
      isplitl [Hs] <;> iassumption
    iexact Hrc
  iintro HO
  iapply Hk
  iexists _; iexact HO

/-- A credit taken: the slot downstream, and how far its receiver is. -/
theorem wp_take {Q : α → sProp 𝕄} (k : Fin 4) {g : ℕ} (hg : g < 13) (O : CellTallies nD τ sig ℕ) (hO : Above (2 * (4 * g + k.val) + 4) O) (p : PUnit → P F α) :
    iprop(ctx V K ∗ cred (tallyAt (credCell c k) g 1) ∗ owesAny c O ∗ atPos ER (credCell c k) g ∅ 0)
      ⊢ iprop(((owesAny c O ∗ atPos ER (credCell c k) (g + 1) ∅ 0 ∗ reached ER (credCell c k) (g + 1)
            ∗ slotAny (dn k c) k (sl g) ∗ reached ER (recvCell (dn k c) k (sl g)) ((g + 1) / 2)) -∗ WP c (p ⟨⟩) Q)
          -∗ WP c (semWaitWord (credS k) 1#32 >>= p) Q) := by
  unfold owesAny
  simp only [semWaitWord, Prog.lift, Prog.bind_op, Prog.bind_ret]
  iintro ⟨#HC, Hc, ⟨%W, HO⟩, Hat⟩ Hk
  iapply (Rounds.wp_wait_rest_token 𝒱₀ ER (rd V) (c : Thread nD τ) none (κ := K (c, ixC k))
      (wpE_semWait_eq 𝒱₀ (c : Thread nD τ) none Set.univ) (Set.mem_univ _) g (O := O) (W := W) (R := g) (m := 0) (T := ∅)
      (by rw [Nat.zero_add, expect_cred V c k hg]; decide)) $$ [Hc HO Hat]
  · isplitr; · iapply (inv_C V c K k); iexact HC
    isplitl [Hc]; · iexact Hc
    isplitl [HO]; · iexact HO
    isplitr; · iapply (ctx_may V c K (.reg (credS k)) g (by omega) (by rw [lv_cred]; exact hO)); iexact HC
    iexact Hat
  iintro ⟨HO, Hat, Hr, Hpay⟩
  ihave Hp := (Entails.of_eq (rest_cred V c k hg)) $$ Hpay
  unfold credPay
  icases Hp with ⟨Hs, Hrr⟩
  iapply Hk
  isplitl [HO]; · iexists _; iexact HO
  isplitl [Hat]; · iexact Hat
  isplitl [Hr]; · iexact Hr
  isplitl [Hs] <;> iassumption

omit [FloatOps F] in
theorem slot_sent (k : Fin 4) (s s' : Fin 2) (fd : (cc0_scratch0 : Ref sig .tc).ty.Contents (Elt F)) (v : FVec F S512x2048 .bf16) :
    (slot k s').view.read (Elt F) ((slot k s').view.write (Elt F) fd v Finset.univ) = v := View.read_write_univ _ _

/-- The chunk numbered `u` sent: to slot `sl (u + 1)` downstream. -/
theorem wp_sendChunk {Q : α → sProp 𝕄} (k : Fin 4) {u : ℕ} (hu : u < 14) (s s' : Fin 2) (hs : s = sl u) (hs' : s' = sl (u + 1)) {O₀ : CellTallies nD τ sig ℕ} (O : CellTallies nD τ sig ℕ)
    (hO : O₀ = O + tallyAt (recvCell (dn k c) k s') u N) (p : PUnit → P F α) :
    iprop(ctx V K ∗ slotIs c k s (sent V k u c) ∗ slotAny (dn k c) k s' ∗ reached ER (credCell c k) u ∗ owesAny c O₀
        ∗ dutyTok ER (sendCell c k s) (u / 2) false ∗ reached ER (sendCell c k s) (u / 2)
        ∗ dutyTok ER (recvCell (dn k c) k s') (u / 2) false ∗ reached ER (recvCell (dn k c) k s') (u / 2))
      ⊢ iprop(((cred (tallyAt (sendCell c k s) u N) ∗ owesAny c O) -∗ WP c (p ⟨⟩) Q)
          -∗ WP c (send k s s' (dn k c) >>= p) Q) := by
  subst hs hs'
  unfold send owesAny slotIs slotAny
  simp only [Prog.lift, Prog.bind_op, Prog.bind_ret]
  iintro ⟨#HC, ⟨%fs, %hfs, Hs⟩, ⟨%fd, Hd⟩, Hrc, ⟨%W, HO⟩, Hts, Hrs, Htr, Hrr⟩ Hk
  unfold slotPts
  iapply (Rounds.wp_send_pointsTo_with 𝒱₀ ER (rd V) (c : Thread nD τ) none (src := slot k (sl u)) (dst := slot k (sl (u + 1))) (sS := .dma (sendS k (sl u))) (sem := .dma (recvS k (sl (u + 1)))) (c' := (dn k c : Thread nD τ)) (κ₁ := K (c, ixS k (sl u))) (κ₂ := K (dn k c, ixR k (sl (u + 1))))
      (F := reached ER (credCell c k) u) (r₁ := u / 2) (r₂ := u / 2) (d₁ := false) (d₂ := false) (fs := fs) (fd := fd)
      (by rw [duties_send V c k _ (by omega)]; exact Finset.mem_singleton_self _)
      (by rw [duties_recv V _ k _ (by omega)]; exact Finset.mem_singleton_self _)
      u u N (N_eq k _) (amount_send V c k _ _ false) (amount_recv V (dn k c) k _ _ false) O hO (W := W)
      (by rw [payload_send]; unfold slotAny slotPts; iintro H; iexists fs; iexact H)
      (by
        rw [payload_recv]; unfold recvPay slotIs slotPts; rw [up_dn]
        iintro ⟨H, Hr⟩
        isplitl [H]
        · iexists _
          isplitr; · ipureintro; exact (slot_sent k (sl u) (sl (u + 1)) fd _).trans hfs
          iexact H
        iexact Hr)) $$ [Hs Hd Hrc HO Hts Hrs Htr Hrr]
  · isplitr; · iapply (inv_S V c K k (sl u)); iexact HC
    isplitr; · iapply (inv_R V (dn k c) K k (sl (u + 1))); iexact HC
    isplitl [Hs]; · iexact Hs
    isplitl [Hd Hrc]
    · isplitl [Hd] <;> iassumption
    isplitl [HO]; · iexact HO
    isplitl [Hts]; · iexact Hts
    isplitl [Hrs]; · iexact Hrs
    isplitl [Htr] <;> iassumption
  iintro ⟨Hc, HO⟩
  iapply Hk
  isplitl [Hc]; · iexact Hc
  iexists _; iexact HO

omit [FloatOps F] in
theorem tile_stored (k : Fin 4) (j : Fin 8) (fd : (main_v1 : Ref sig .tc).ty.Contents (Elt F)) (v : FVec F S512x2048 .f32) :
    (tl k j).view.read (Elt F) ((tl k j).view.write (Elt F) fd v Finset.univ) = v := View.read_write_univ _ _

/-- The store numbered `n` started. -/
theorem wp_putTile {Q : α → sProp 𝕄} (k : Fin 4) {n : ℕ} (h6 : 6 ≤ n) (hn : n < 14) (p : PUnit → P F α) :
    iprop(ctx V K ∗ pchIs c k (outT V k n c) ∗ tileAny (F := F) c k (agC c k n) ∗ dutyTok ER (storeCell c k) (n - 6) false ∗ reached ER (storeCell c k) (n - 6))
      ⊢ iprop((cred (tallyAt (storeCell c k) 0 NS) -∗ WP c (p ⟨⟩) Q)
          -∗ WP c (putTile k (tOff k (agC c k n)) (tInb k (agC c k n)) >>= p) Q) := by
  unfold putTile pchIs tileAny
  simp only [Prog.lift, Prog.bind_op, Prog.bind_ret]
  iintro ⟨#HC, ⟨%fs, %hfs, Hs⟩, ⟨%fd, Hd⟩, Ht, Hr⟩ Hk
  unfold pchPts tilePts
  iapply (Rounds.wp_copy_pointsTo 𝒱₀ ER (rd V) (c : Thread nD τ) none (src := pch k) (dst := tl k (agC c k n)) (sem := .dma (storeS k)) (κ := K (c, ixT k))
      (r := n - 6) (d := false) (fs := fs) (fd := fd)
      (by rw [duties_store V c k (by omega)]; exact Finset.mem_singleton_self _)
      0 NS (NS_eq k _) (amount_store V c k _ false)
      (by
        rw [payload_store, show n - 6 + 6 = n by omega]; unfold storePay pchAny pchPts tileIs tilePts
        iintro ⟨H, Hp⟩
        isplitl [Hp]; · iexists fs; iexact Hp
        iexists ((tl k (agC c k n)).view.write (Elt F) fd ((pch k).view.read (Elt F) fs) Finset.univ)
        isplitr; · ipureintro; exact (tile_stored k (agC c k n) fd _).trans hfs
        iexact H)) $$ [Hs Hd Ht Hr]
  · isplitr; · iapply (inv_T V c K k); iexact HC
    isplitl [Hs]; · iexact Hs
    isplitl [Hd]; · iexact Hd
    isplitl [Ht] <;> iassumption
  iexact Hk

/-- The wait for the store numbered `n`: the staging tile, and the tile with its value. -/
theorem wp_waitTile {Q : α → sProp 𝕄} (k : Fin 4) {n : ℕ} (h6 : 6 ≤ n) (hn : n < 14) (O : CellTallies nD τ sig ℕ) (hO : Above 1 O) (p : PUnit → P F α) :
    iprop(ctx V K ∗ cred (tallyAt (storeCell c k) 0 NS) ∗ owesAny c O ∗ atPos ER (storeCell c k) (n - 6) ∅ 0)
      ⊢ iprop(((owesAny c O ∗ atPos ER (storeCell c k) (n - 5) ∅ 0 ∗ reached ER (storeCell c k) (n - 5)
            ∗ pchAny (F := F) c k ∗ tileIs c k (agC c k n) (outT V k n c)) -∗ WP c (p ⟨⟩) Q)
          -∗ WP c (waitTile k (tOff k (agC c k n)) (tInb k (agC c k n)) >>= p) Q) := by
  unfold waitTile owesAny
  simp only [Prog.lift, Prog.bind_op, Prog.bind_ret]
  iintro ⟨#HC, Hc, ⟨%W, HO⟩, Hat⟩ Hk
  iapply (Rounds.wp_wait_rest_token 𝒱₀ ER (rd V) (c : Thread nD τ) none (κ := K (c, ixT k))
      (wpE_waitDma2_eq 𝒱₀ (c : Thread nD τ) none Set.univ) (Set.mem_univ _) 0 (O := O) (W := W) (R := n - 6) (m := 0) (T := ∅)
      (by rw [Nat.zero_add, expect_store V c k (by omega)])) $$ [Hc HO Hat]
  · isplitr; · iapply (inv_T V c K k); iexact HC
    isplitl [Hc]; · iexact Hc
    isplitl [HO]; · iexact HO
    isplitr; · iapply (ctx_may V c K (.dma (storeS k)) 0 (by omega) (by rw [lv_store]; exact hO)); iexact HC
    iexact Hat
  rw [show n - 6 + 1 = n - 5 by omega]
  iintro ⟨HO, Hat, Hr, Hpay⟩
  ihave Hp := (Entails.of_eq ((rest_store V c k (r := n - 6) (by omega)).trans (by rw [show n - 6 + 6 = n by omega]))) $$ Hpay
  unfold storePay
  icases Hp with ⟨Hp, Ht⟩
  iapply Hk
  isplitl [HO]; · iexists _; iexact HO
  isplitl [Hat]; · iexact Hat
  isplitl [Hr]; · iexact Hr
  isplitl [Hp] <;> iassumption

end Sync

end Cert.Collective

end
-- ==== Proof.Steps.lean ====
/- The blocks: what a stream holds between its steps, and that every block leads from one state to the next. -/
module

public import proofs.«01_k».proof.Proof.Ops

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem sl_two (g : ℕ) : sl (g + 1 + 1) = sl g := Fin.ext (by show (g + 1 + 1) % 2 = g % 2; omega)
theorem half_two (g : ℕ) : (g + 1 + 1) / 2 = g / 2 + 1 := by omega

/-! ## What is left of a stream's credits and tokens -/

section Families
variable (c : Dev nD) (k : Fin 4) (a : ℕ)

/-- The arrivals still to wait for. -/
def credsR : sProp 𝕄 := bigSep (Finset.Ico a 14) fun u => cred (tallyAt (recvCell c k (sl (u + 1))) u N)
/-- The credits still to wait for. -/
def credsC : sProp 𝕄 := bigSep (Finset.Ico a 13) fun u => cred (tallyAt (credCell c k) u 1)
/-- The arrivals still to pay downstream. -/
def toksR : sProp 𝕄 := bigSep (Finset.Ico a 14) fun u => dutyTok ER (recvCell (dn k c) k (sl (u + 1))) (u / 2) false
/-- The departures still to pay. -/
def toksS : sProp 𝕄 := bigSep (Finset.Ico a 14) fun u => dutyTok ER (sendCell c k (sl u)) (u / 2) false
/-- The credits still to pay upstream. -/
def toksC : sProp 𝕄 := bigSep (Finset.Ico a 13) fun u => dutyTok ER (credCell (up k c) k) u false
/-- The stores still to pay. -/
def toksT : sProp 𝕄 := bigSep (Finset.Ico a 14) fun u => dutyTok ER (storeCell c k) (u - 6) false
/-- The tiles not yet stored to. -/
def tilesAny : sProp 𝕄 := bigSep (Finset.Ico a 14) fun u => tileAny (F := F) c k (agC c k u)

theorem credsR_first {a : ℕ} (h : a < 14) : credsR (F := F) c k a = iprop(cred (tallyAt (recvCell c k (sl (a + 1))) a N) ∗ credsR c k (a + 1)) := bigSep_first h _
theorem credsC_first {a : ℕ} (h : a < 13) : credsC (F := F) c k a = iprop(cred (tallyAt (credCell c k) a 1) ∗ credsC c k (a + 1)) := bigSep_first h _
theorem toksR_first {a : ℕ} (h : a < 14) : toksR (F := F) c k a = iprop(dutyTok ER (recvCell (dn k c) k (sl (a + 1))) (a / 2) false ∗ toksR c k (a + 1)) := bigSep_first h _
theorem toksS_first {a : ℕ} (h : a < 14) : toksS (F := F) c k a = iprop(dutyTok ER (sendCell c k (sl a)) (a / 2) false ∗ toksS c k (a + 1)) := bigSep_first h _
theorem toksC_first {a : ℕ} (h : a < 13) : toksC (F := F) c k a = iprop(dutyTok ER (credCell (up k c) k) a false ∗ toksC c k (a + 1)) := bigSep_first h _
theorem toksT_first {a : ℕ} (h : a < 14) : toksT (F := F) c k a = iprop(dutyTok ER (storeCell c k) (a - 6) false ∗ toksT c k (a + 1)) := bigSep_first h _
theorem tilesAny_first {a : ℕ} (h : a < 14) : tilesAny (F := F) c k a = iprop(tileAny (F := F) c k (agC c k a) ∗ tilesAny c k (a + 1)) := bigSep_first h _

end Families

variable (V : Vals F) (c : Dev nD) (k : Fin 4)

/-- The tiles stored. -/
def tilesIs (a : ℕ) : sProp 𝕄 := bigSep (Finset.Ico 6 a) fun u => tileIs c k (agC c k u) (outT V k u c)
theorem tilesIs_last {a : ℕ} (h : 6 ≤ a) : tilesIs V c k (a + 1) = iprop(tileIs c k (agC c k a) (outT V k a c) ∗ tilesIs V c k a) := bigSep_last h _

/-! ## A stream's state -/

/-- The ring side of a stream before step `g`: both slots are on their way. -/
def RS (g : ℕ) : sProp 𝕄 :=
  iprop(atPos ER (recvCell c k (sl (g + 1))) (g / 2) ∅ 0 ∗ atPos ER (recvCell c k (sl g)) ((g + 1) / 2) ∅ 0
    ∗ atPos ER (sendCell c k (sl g)) (g / 2) ∅ 0 ∗ atPos ER (sendCell c k (sl (g + 1))) ((g + 1) / 2) ∅ 0
    ∗ atPos ER (credCell c k) g ∅ 0
    ∗ credsR c k g ∗ credsC c k g ∗ cred (tallyAt (sendCell c k (sl g)) g N)
    ∗ toksR c k (g + 1) ∗ toksS c k (g + 1) ∗ toksC c k g
    ∗ reached ER (sendCell c k (sl (g + 1))) ((g + 1) / 2) ∗ reached ER (recvCell c k (sl g)) ((g + 1) / 2))
/-- The same after the chunk of step `g` has arrived, its slot apart. -/
def RM (g : ℕ) : sProp 𝕄 :=
  iprop(atPos ER (recvCell c k (sl (g + 1))) (g / 2 + 1) ∅ 0 ∗ atPos ER (recvCell c k (sl g)) ((g + 1) / 2) ∅ 0
    ∗ atPos ER (sendCell c k (sl g)) (g / 2) ∅ 0 ∗ atPos ER (sendCell c k (sl (g + 1))) ((g + 1) / 2) ∅ 0
    ∗ atPos ER (credCell c k) g ∅ 0
    ∗ credsR c k (g + 1) ∗ credsC c k g ∗ cred (tallyAt (sendCell c k (sl g)) g N)
    ∗ toksR c k (g + 1) ∗ toksS c k (g + 1) ∗ toksC c k g
    ∗ reached ER (sendCell c k (sl (g + 1))) ((g + 1) / 2) ∗ reached ER (recvCell c k (sl g)) ((g + 1) / 2)
    ∗ reached ER (recvCell c k (sl (g + 1))) (g / 2 + 1) ∗ reached ER (credCell (up k c) k) g)
/-- The ring side at the end: both slots back. -/
def RE : sProp 𝕄 :=
  iprop(atPos ER (recvCell c k 0) 7 ∅ 0 ∗ atPos ER (recvCell c k 1) 7 ∅ 0 ∗ atPos ER (sendCell c k 0) 7 ∅ 0 ∗ atPos ER (sendCell c k 1) 7 ∅ 0
    ∗ atPos ER (credCell c k) 13 ∅ 0 ∗ slotAny (F := F) c k 0 ∗ slotAny (F := F) c k 1)

/-- The store side with the staging tile at hand, before the store numbered `n`. -/
def SA (n : ℕ) : sProp 𝕄 :=
  iprop(atPos ER (storeCell c k) (n - 6) ∅ 0 ∗ reached ER (storeCell c k) (n - 6) ∗ pchAny (F := F) c k ∗ toksT c k n ∗ tilesAny c k n ∗ tilesIs V c k n)
/-- The store side with the store numbered `n` under way. -/
def SB (n : ℕ) : sProp 𝕄 :=
  iprop(atPos ER (storeCell c k) (n - 6) ∅ 0 ∗ cred (tallyAt (storeCell c k) 0 NS) ∗ toksT c k (n + 1) ∗ tilesAny c k (n + 1) ∗ tilesIs V c k n)

section Ops
variable {α : Type} (K : Dev nD × CI → ℕ)

theorem wp_recvK {Q : α → sProp 𝕄} {g : ℕ} (hg : g < 14) (p : PUnit → P F α) :
    iprop(ctx V K ∗ RS c k g ∗ owesAny c (OT c (4 * g + k.val)))
      ⊢ iprop(((RM c k g ∗ slotIs c k (sl (g + 1)) (sent V k g (up k c)) ∗ owesAny c (OT c (4 * g + k.val))) -∗ WP c (p ⟨⟩) Q)
          -∗ WP c (waitRecv k (sl (g + 1)) (sl g) >>= p) Q) := by
  unfold RS RM
  rw [credsR_first c k hg]
  iintro ⟨#HC, ⟨H1, H2, H3, H4, H5, ⟨Hc, H6⟩, H7, H8, H9, H10, H11, H12, H13⟩, HO⟩ Hk
  iapply (wp_waitRecv V c K k hg (OT c (4 * g + k.val)) (OT_above c _) p) $$ [Hc HO H1]
  · isplitr; · iexact HC
    isplitl [Hc]; · iexact Hc
    isplitl [HO] <;> iassumption
  iintro ⟨HO, H1, Hr, Hs, Hrc⟩
  iapply Hk
  isplitr [Hs HO]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [Hr] <;> iassumption
  isplitl [Hs] <;> iassumption

theorem wp_passOn {Q : α → sProp 𝕄} {g : ℕ} (hg : g < 13) (p : PUnit → P F α) :
    iprop(ctx V K ∗ RM c k g ∗ slotIs c k (sl (g + 1)) (sent V k (g + 1) c) ∗ owesAny c (OT c (4 * g + k.val)))
      ⊢ iprop(((RS c k (g + 1) ∗ owesAny c (OT c (4 * g + k.val + 1))) -∗ WP c (p ⟨⟩) Q)
          -∗ WP c (passOn k (sl (g + 1)) (sl g) (up k c) (dn k c) >>= p) Q) := by
  have hT : 4 * g + k.val < 52 := by omega
  have hk : kOf (4 * g + k.val) = k := Fin.ext (by show (4 * g + k.val) % 4 = k.val; omega)
  have hd : (4 * g + k.val) / 4 = g := by omega
  have hR : payR c (4 * g + k.val) = tallyAt (recvCell (dn k c) k (sl g)) (g + 1) N := by unfold payR; rw [hk, hd]
  have hC : payC c (4 * g + k.val) = tallyAt (credCell (up k c) k) g 1 := by unfold payC; rw [hk, hd]
  have h1 : Above 1 (OT c (4 * g + k.val)) := above_mono (OT_above c _) (by omega)
  have h2 : Above (2 * (4 * g + k.val) + 4) (OT c (4 * g + k.val + 1) + payR c (4 * g + k.val)) :=
    above_add (above_mono (OT_above c _) (by omega)) (above_mono (payR_above c hT) (by omega))
  unfold passOn
  simp only [bind_assoc]
  unfold RS RM
  rw [credsC_first c k hg, toksR_first c k (a := g + 1) (by omega), toksS_first c k (a := g + 1) (by omega), toksC_first c k hg]
  iintro ⟨#HC, ⟨H1, H2, H3, H4, H5, H6, ⟨Hcc, H7⟩, Hcs, ⟨HtR, H9⟩, ⟨HtS, H10⟩, ⟨HtC, H11⟩, #HrS, #HrR, #HrR', #HrC⟩, Hs, HO⟩ Hk
  iapply (wp_waitSend V c K k (sl (g + 1)) (sl g) (r := g / 2) (u := g) (by omega) (by omega) (OT c (4 * g + k.val)) h1) $$ [Hcs HO H3]
  · isplitr; · iexact HC
    isplitl [Hcs]; · iexact Hcs
    isplitl [HO] <;> iassumption
  iintro ⟨HO, H3, #HrS', Hfree⟩
  iapply (wp_give V c K k hg (OT c (4 * g + k.val + 1) + payR c (4 * g + k.val)) (O₀ := OT c (4 * g + k.val)) (by rw [OT_step c hT, hC])) $$ [HO HtC Hfree]
  · isplitr; · iexact HC
    isplitl [HO]; · iexact HO
    isplitl [HtC]; · iexact HtC
    isplitl [Hfree]; · iexact Hfree
    isplitr; · iexact HrR
    iexact HrC
  iintro HO
  iapply (wp_take V c K k hg _ h2) $$ [Hcc HO H5]
  · isplitr; · iexact HC
    isplitl [Hcc]; · iexact Hcc
    isplitl [HO] <;> iassumption
  iintro ⟨HO, H5, #HrC', Hd, #HrD⟩
  iapply (wp_sendChunk V c K k (u := g + 1) (by omega) (sl (g + 1)) (sl g) rfl (sl_two g).symm (O₀ := OT c (4 * g + k.val + 1) + payR c (4 * g + k.val)) (OT c (4 * g + k.val + 1)) (by rw [hR])) $$ [Hs Hd HO HtS HtR]
  · isplitr; · iexact HC
    isplitl [Hs]; · iexact Hs
    isplitl [Hd]; · iexact Hd
    isplitr; · iexact HrC'
    isplitl [HO]; · iexact HO
    isplitl [HtS]; · iexact HtS
    isplitr; · iexact HrS
    isplitl [HtR]; · rw [sl_two]; iexact HtR
    iexact HrD
  iintro ⟨Hcs, HO⟩
  iapply Hk
  isplitr [HO]
  · rw [sl_two, half_two]
    isplitl [H2]; · iexact H2
    isplitl [H1]; · iexact H1
    isplitl [H4]; · iexact H4
    isplitl [H3]; · iexact H3
    isplitl [H5]; · iexact H5
    isplitl [H6]; · iexact H6
    isplitl [H7]; · iexact H7
    isplitl [Hcs]; · iexact Hcs
    isplitl [H9]; · iexact H9
    isplitl [H10]; · iexact H10
    isplitl [H11]; · iexact H11
    isplitr; · iexact HrS'
    iexact HrR'
  iexact HO

theorem wp_lastSend {Q : α → sProp 𝕄} (v) (p : PUnit → P F α) :
    iprop(ctx V K ∗ RM c k 13 ∗ slotIs c k (sl (13 + 1)) v ∗ owesAny c (OT c (4 * 13 + k.val)))
      ⊢ iprop(((RE c k ∗ owesAny c (OT c (4 * 13 + k.val + 1))) -∗ WP c (p ⟨⟩) Q)
          -∗ WP c (waitSend k (sl (13 + 1)) (sl 13) >>= p) Q) := by
  rw [OT_end c (T := 4 * 13 + k.val) (by omega), OT_end c (T := 4 * 13 + k.val + 1) (by omega)]
  unfold RM RE
  iintro ⟨#HC, ⟨H1, H2, H3, H4, H5, -, -, Hcs, -, -, -, -, -, -, -⟩, Hs, HO⟩ Hk
  iapply (wp_waitSend V c K k (sl (13 + 1)) (sl 13) (r := 13 / 2) (u := 13) (by omega) (by omega) 0 (above_zero _)) $$ [Hcs HO H3]
  · isplitr; · iexact HC
    isplitl [Hcs]; · iexact Hcs
    isplitl [HO] <;> iassumption
  iintro ⟨HO, H3, -, Hfree⟩
  iapply Hk
  isplitr [HO]
  · isplitl [H1]; · iexact H1
    isplitl [H2]; · iexact H2
    isplitl [H4]; · iexact H4
    isplitl [H3]; · iexact H3
    isplitl [H5]; · iexact H5
    isplitl [Hs]
    · unfold slotIs slotAny; icases Hs with ⟨%f, -, Hs⟩; iexists f; iexact Hs
    iexact Hfree
  iexact HO

/-- A store of the tile numbered `n`. -/
theorem wp_put {Q : α → sProp 𝕄} {n : ℕ} (h6 : 6 ≤ n) (hn : n < 14) (p : PUnit → P F α) :
    iprop(ctx V K ∗ SA V c k n)
      ⊢ iprop((SB V c k n -∗ WP c (p ⟨⟩) Q)
          -∗ WP c (loadPch k >>= fun _ => storePch k (lift3 (outT V k n c)) >>= fun _ => putTile k (tOff k (agC c k n)) (tInb k (agC c k n)) >>= p) Q) := by
  unfold SA SB
  rw [toksT_first c k hn, tilesAny_first c k hn]
  iintro ⟨#HC, Hat, #Hr, Hp, ⟨Ht, HT⟩, ⟨Hd, HD⟩, HI⟩ Hk
  iapply (wp_fillPch c k (outT V k n c)) $$ Hp
  iintro Hp
  iapply (wp_putTile V c K k h6 hn p) $$ [Hp Hd Ht]
  · isplitr; · iexact HC
    isplitl [Hp]; · iexact Hp
    isplitl [Hd]; · iexact Hd
    isplitl [Ht]; · iexact Ht
    iexact Hr
  iintro Hc
  iapply Hk
  isplitl [Hat]; · iexact Hat
  isplitl [Hc]; · iexact Hc
  isplitl [HT]; · iexact HT
  isplitl [HD] <;> iassumption

theorem wp_stored {Q : α → sProp 𝕄} {n : ℕ} (h6 : 6 ≤ n) (hn : n < 14) (O : CellTallies nD τ sig ℕ) (hO : Above 1 O) (p : PUnit → P F α) :
    iprop(ctx V K ∗ SB V c k n ∗ owesAny c O)
      ⊢ iprop(((SA V c k (n + 1) ∗ owesAny c O) -∗ WP c (p ⟨⟩) Q)
          -∗ WP c (waitTile k (tOff k (agC c k n)) (tInb k (agC c k n)) >>= p) Q) := by
  unfold SA SB
  rw [tilesIs_last V c k h6, show n + 1 - 6 = n - 5 by omega]
  iintro ⟨#HC, ⟨Hat, Hc, HT, HD, HI⟩, HO⟩ Hk
  iapply (wp_waitTile V c K k h6 hn O hO p) $$ [Hc HO Hat]
  · isplitr; · iexact HC
    isplitl [Hc]; · iexact Hc
    isplitl [HO] <;> iassumption
  iintro ⟨HO, Hat, Hr, Hp, Ht⟩
  iapply Hk
  isplitr [HO]
  · isplitl [Hat]; · iexact Hat
    isplitl [Hr]; · iexact Hr
    isplitl [Hp]; · iexact Hp
    isplitl [HT]; · iexact HT
    isplitl [HD]; · iexact HD
    isplitl [Ht] <;> iassumption
  iexact HO

/-! ## The steps -/

/-- The store side before step `g`. -/
def SS (g : ℕ) : sProp 𝕄 := if g ≤ 6 then SA V c k 6 else SB V c k (g - 1)
/-- A stream before step `g`, and after the last. -/
def ST (g : ℕ) : sProp 𝕄 := if g < 14 then iprop(RS c k g ∗ SS V c k g) else iprop(RE c k ∗ SB V c k 13)

theorem sent_add {g : ℕ} (h : g < 6) : sent V k (g + 1) c = accV (sent V k g (up k c)) (V.x c (rsC c k g)) (V.w c k) := if_pos h
theorem sent_fin : sent V k (6 + 1) c = narrowV (yV (V.sc c) (sent V k 6 (up k c)) (V.x c (rsC c k 6)) (V.w c k)) := by
  show (if 6 < 6 then _ else if 6 = 6 then _ else _) = _
  rw [if_neg (by decide), if_pos rfl]
theorem sent_pass {g : ℕ} (h : 6 < g) : sent V k (g + 1) c = sent V k g (up k c) := by
  show (if g < 6 then _ else if g = 6 then _ else _) = _
  rw [if_neg (by omega), if_neg (by omega)]
theorem outT_fin : outT V k 6 c = yV (V.sc c) (sent V k 6 (up k c)) (V.x c (rsC c k 6)) (V.w c k) := if_pos rfl
theorem outT_pass {g : ℕ} (h : 6 < g) : outT V k g c = widenV (sent V k g (up k c)) := if_neg (by omega)

theorem wp_addStep {Q : α → sProp 𝕄} {g : ℕ} (hg : g < 6) (p : PUnit → P F α) :
    iprop(ctx V K ∗ ops V c ∗ RS c k g ∗ owesAny c (OT c (4 * g + k.val)))
      ⊢ iprop(((ops V c ∗ RS c k (g + 1) ∗ owesAny c (OT c (4 * g + k.val + 1))) -∗ WP c (p ⟨⟩) Q)
          -∗ WP c (addStep k (sl (g + 1)) (sl g) (xOff (rsC c k g)) (xInb _) (up k c) (dn k c) >>= p) Q) := by
  unfold addStep
  simp only [bind_assoc]
  iintro ⟨#HC, HX, HS, HO⟩ Hk
  iapply (wp_recvK V c k K (g := g) (by omega)) $$ [HS HO]
  · isplitr; · iexact HC
    isplitl [HS] <;> iassumption
  iintro ⟨HM, Hs, HO⟩
  unfold slotIs
  icases Hs with ⟨%f, %hf, Hs⟩
  iapply (wp_loadSlot c k (sl (g + 1)) f) $$ Hs
  iintro Hs
  iapply (wp_loadX V c (rsC c k g)) $$ HX
  iintro HX
  iapply (wp_loadW V c k) $$ HX
  iintro HX
  iapply (wp_loadSlot c k (sl (g + 1)) f) $$ Hs
  iintro Hs
  rw [slot_read k (sl (g + 1)) f, hf, ← sent_add V c k hg]
  iapply (wp_storeSlot c k (sl (g + 1)) f) $$ Hs
  iintro Hs
  iapply (wp_passOn V c k K (g := g) (by omega)) $$ [HM Hs HO]
  · isplitr; · iexact HC
    isplitl [HM]; · iexact HM
    isplitl [Hs] <;> iassumption
  iintro ⟨HS, HO⟩
  iapply Hk
  isplitl [HX]; · iexact HX
  isplitl [HS] <;> iassumption

theorem wp_finStep {Q : α → sProp 𝕄} (p : PUnit → P F α) :
    iprop(ctx V K ∗ ops V c ∗ RS c k 6 ∗ SA V c k 6 ∗ owesAny c (OT c (4 * 6 + k.val)))
      ⊢ iprop(((ops V c ∗ RS c k (6 + 1) ∗ SB V c k 6 ∗ owesAny c (OT c (4 * 6 + k.val + 1))) -∗ WP c (p ⟨⟩) Q)
          -∗ WP c (finStep (V.sc c) k (sl (6 + 1)) (sl 6) (xOff (rsC c k 6)) (xInb _) (tOff k (agC c k 6)) (tInb _ _) (up k c) (dn k c) >>= p) Q) := by
  unfold finStep
  simp only [bind_assoc]
  iintro ⟨#HC, HX, HS, HA, HO⟩ Hk
  iapply (wp_recvK V c k K (g := 6) (by omega)) $$ [HS HO]
  · isplitr; · iexact HC
    isplitl [HS] <;> iassumption
  iintro ⟨HM, Hs, HO⟩
  unfold slotIs
  icases Hs with ⟨%f, %hf, Hs⟩
  iapply (wp_loadSlot c k (sl (6 + 1)) f) $$ Hs
  iintro Hs
  iapply (wp_loadX V c (rsC c k 6)) $$ HX
  iintro HX
  iapply (wp_loadW V c k) $$ HX
  iintro HX
  iapply (wp_loadSlot c k (sl (6 + 1)) f) $$ Hs
  iintro Hs
  rw [slot_read k (sl (6 + 1)) f, hf, ← sent_fin V c k, ← outT_fin V c k]
  iapply (wp_storeSlot c k (sl (6 + 1)) f) $$ Hs
  iintro Hs
  iapply (wp_put V c k K (n := 6) (by omega) (by omega)) $$ [HA]
  · isplitr; · iexact HC
    iexact HA
  iintro HB
  iapply (wp_passOn V c k K (g := 6) (by omega)) $$ [HM Hs HO]
  · isplitr; · iexact HC
    isplitl [HM]; · iexact HM
    isplitl [Hs] <;> iassumption
  iintro ⟨HS, HO⟩
  iapply Hk
  isplitl [HX]; · iexact HX
  isplitl [HS]; · iexact HS
  isplitl [HB] <;> iassumption

theorem wp_gatherHead {Q : α → sProp 𝕄} {g : ℕ} (h7 : 6 < g) (hg : g < 14) (r : P F PUnit) (p : PUnit → P F α) :
    iprop(ctx V K ∗ RS c k g ∗ SB V c k (g - 1) ∗ owesAny c (OT c (4 * g + k.val)))
      ⊢ iprop(((RM c k g ∗ slotIs c k (sl (g + 1)) (sent V k (g + 1) c) ∗ SB V c k g ∗ owesAny c (OT c (4 * g + k.val))) -∗ WP c (r >>= p) Q)
          -∗ WP c (gatherHead k (sl (g + 1)) (sl g) (tOff k (agC c k (g - 1))) (tInb _ _) (tOff k (agC c k g)) (tInb _ _) r >>= p) Q) := by
  unfold gatherHead
  simp only [bind_assoc]
  iintro ⟨#HC, HS, HB, HO⟩ Hk
  iapply (wp_recvK V c k K (g := g) (by omega)) $$ [HS HO]
  · isplitr; · iexact HC
    isplitl [HS] <;> iassumption
  iintro ⟨HM, Hs, HO⟩
  iapply (wp_stored V c k K (n := g - 1) (by omega) (by omega) _ (above_mono (OT_above c _) (by omega))) $$ [HB HO]
  · isplitr; · iexact HC
    isplitl [HB] <;> iassumption
  rw [show g - 1 + 1 = g by omega]
  iintro ⟨HA, HO⟩
  unfold slotIs
  icases Hs with ⟨%f, %hf, Hs⟩
  iapply (wp_loadSlot c k (sl (g + 1)) f) $$ Hs
  iintro Hs
  rw [slot_read k (sl (g + 1)) f, hf, ← outT_pass V c k h7]
  iapply (wp_put V c k K (n := g) (by omega) (by omega)) $$ [HA]
  · isplitr; · iexact HC
    iexact HA
  iintro HB
  iapply Hk
  isplitl [HM]; · iexact HM
  isplitl [Hs]
  · iexists f
    isplitr; · ipureintro; rw [sent_pass V c k h7]; exact hf
    iexact Hs
  isplitl [HB] <;> iassumption

/-- Every step leads on. -/
theorem wp_stepK {Q : α → sProp 𝕄} {g : ℕ} (hg : g < 14) (p : PUnit → P F α) :
    iprop(ctx V K ∗ ops V c ∗ ST V c k g ∗ owesAny c (OT c (4 * g + k.val)))
      ⊢ iprop(((ops V c ∗ ST V c k (g + 1) ∗ owesAny c (OT c (4 * g + k.val + 1))) -∗ WP c (p ⟨⟩) Q)
          -∗ WP c (stepK c (V.sc c) k g >>= p) Q) := by
  unfold stepK ST
  rw [if_pos hg]
  by_cases h6 : g < 6
  · rw [if_pos h6, if_pos (show g + 1 < 14 by omega)]
    unfold SS
    rw [if_pos (show g ≤ 6 by omega), if_pos (show g + 1 ≤ 6 by omega)]
    iintro ⟨#HC, HX, ⟨HS, HA⟩, HO⟩ Hk
    iapply (wp_addStep V c k K h6 p) $$ [HX HS HO]
    · isplitr; · iexact HC
      isplitl [HX]; · iexact HX
      isplitl [HS] <;> iassumption
    iintro ⟨HX, HS, HO⟩
    iapply Hk
    isplitl [HX]; · iexact HX
    isplitl [HS HA]
    · isplitl [HS] <;> iassumption
    iexact HO
  rw [if_neg h6]
  by_cases h : g = 6
  · subst h
    rw [if_pos rfl, if_pos (show 6 + 1 < 14 by omega)]
    unfold SS
    rw [if_pos (show 6 ≤ 6 by omega), if_neg (show ¬ 6 + 1 ≤ 6 by omega)]
    iintro ⟨#HC, HX, ⟨HS, HA⟩, HO⟩ Hk
    iapply (wp_finStep V c k K p) $$ [HX HS HA HO]
    · isplitr; · iexact HC
      isplitl [HX]; · iexact HX
      isplitl [HS]; · iexact HS
      isplitl [HA] <;> iassumption
    iintro ⟨HX, HS, HA, HO⟩
    iapply Hk
    isplitl [HX]; · iexact HX
    isplitl [HS HA]
    · isplitl [HS]; · iexact HS
      iexact HA
    iexact HO
  rw [if_neg h]
  unfold SS
  rw [if_neg (show ¬ g ≤ 6 by omega)]
  by_cases h13 : g < 13
  · rw [if_pos h13, if_pos (show g + 1 < 14 by omega), if_neg (show ¬ g + 1 ≤ 6 by omega), show g + 1 - 1 = g by omega]
    unfold gatherStep
    iintro ⟨#HC, HX, ⟨HS, HB⟩, HO⟩ Hk
    iapply (wp_gatherHead V c k K (g := g) (by omega) hg) $$ [HS HB HO]
    · isplitr; · iexact HC
      isplitl [HS]; · iexact HS
      isplitl [HB] <;> iassumption
    iintro ⟨HM, Hs, HB, HO⟩
    iapply (wp_passOn V c k K h13 p) $$ [HM Hs HO]
    · isplitr; · iexact HC
      isplitl [HM]; · iexact HM
      isplitl [Hs] <;> iassumption
    iintro ⟨HS, HO⟩
    iapply Hk
    isplitl [HX]; · iexact HX
    isplitl [HS HB]
    · isplitl [HS] <;> iassumption
    iexact HO
  · obtain rfl : g = 13 := by omega
    rw [if_neg h13, if_neg (show ¬ 13 + 1 < 14 by omega)]
    unfold lastStep
    iintro ⟨#HC, HX, ⟨HS, HB⟩, HO⟩ Hk
    iapply (wp_gatherHead V c k K (g := 13) (by omega) hg) $$ [HS HB HO]
    · isplitr; · iexact HC
      isplitl [HS]; · iexact HS
      isplitl [HB] <;> iassumption
    iintro ⟨HM, Hs, HB, HO⟩
    iapply (wp_lastSend V c k K _ p) $$ [HM Hs HO]
    · isplitr; · iexact HC
      isplitl [HM]; · iexact HM
      isplitl [Hs] <;> iassumption
    iintro ⟨HS, HO⟩
    iapply Hk
    isplitl [HX]; · iexact HX
    isplitl [HS HB]
    · isplitl [HS] <;> iassumption
    iexact HO

end Ops

end Cert.Collective

end
-- ==== Proof.Body.lean ====
/- The whole body: the barrier, the four first chunks, the steps of the four streams in turn, the last waits. -/
module

public import proofs.«01_k».proof.Proof.Steps

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (V : Vals F) (c : Dev nD) (K : Dev nD × CI → ℕ)

/-! ## Many blocks -/

/-- One stream's state out of the four, to be replaced. -/
theorem swap_one (k : Fin 4) (A B : Fin 4 → sProp 𝕄) (h : ∀ k', k' ≠ k → A k' = B k') :
    bigSep Finset.univ A ⊢ iprop(A k ∗ (B k -∗ bigSep Finset.univ B)) := by
  have hA : bigSep Finset.univ A = iprop(A k ∗ bigSep (Finset.univ.erase k) A) := bigSep_erase (Finset.mem_univ k)
  have hB : bigSep Finset.univ B = iprop(B k ∗ bigSep (Finset.univ.erase k) A) :=
    (bigSep_erase (Finset.mem_univ k)).trans (congrArg (fun X => iprop(B k ∗ X)) (bigSep_congr fun k' hk => (h k' (Finset.ne_of_mem_erase hk)).symm))
  rw [hA, hB]
  iintro ⟨H, HR⟩
  isplitl [H]; · iexact H
  iintro HB
  isplitl [HB] <;> iassumption

/-- A run of blocks, each leading from one state to the next. -/
theorem wp_run (I : ℕ → sProp 𝕄) (f : ℕ → P F PUnit) (rest : List (P F PUnit)) {Q : PUnit → sProp 𝕄} :
    ∀ (n a : ℕ), (∀ T, a ≤ T → T < a + n → ∀ p : PUnit → P F PUnit, I T ⊢ iprop((I (T + 1) -∗ WP c (p ⟨⟩) Q) -∗ WP c (f T >>= p) Q))
      → I a ⊢ iprop((I (a + n) -∗ WP c (Pipeline.chain rest) Q) -∗ WP c (Pipeline.chain ((List.range' a n).map f ++ rest)) Q)
  | 0, a, _ => by
    rw [List.range'_zero, List.map_nil, List.nil_append, Nat.add_zero]
    iintro H Hk
    iapply Hk $$ H
  | n + 1, a, h => by
    rw [List.range'_succ, List.map_cons, List.cons_append, Pipeline.chain_cons]
    have ih := wp_run I f rest n (a + 1) (fun T h1 h2 => h T (by omega) (by omega)) (Q := Q)
    rw [show a + 1 + n = a + (n + 1) by omega] at ih
    iintro H Hk
    iapply (h a le_rfl (by omega) fun _ => Pipeline.chain ((List.range' (a + 1) n).map f ++ rest)) $$ H
    iintro H
    iapply ih $$ H
    iexact Hk

/-! ## The first chunks -/

/-- The ring side of a stream before its first chunk. -/
def RI (k : Fin 4) : sProp 𝕄 :=
  iprop(atPos ER (recvCell c k 0) 0 ∅ 0 ∗ atPos ER (recvCell c k 1) 0 ∅ 0
    ∗ atPos ER (sendCell c k 0) 0 ∅ 0 ∗ atPos ER (sendCell c k 1) 0 ∅ 0
    ∗ atPos ER (credCell c k) 0 ∅ 0
    ∗ credsR c k 0 ∗ credsC c k 0 ∗ toksR c k 0 ∗ toksS c k 0 ∗ toksC c k 0 ∗ slotAny (F := F) c k 0)

theorem wp_initK {Q : PUnit → sProp 𝕄} (k : Fin 4) (p : PUnit → P F PUnit) :
    iprop(ctx V K ∗ ops V c ∗ RI c k ∗ slotAny (F := F) (dn k c) k 1 ∗ owesAny c (OI c k.val))
      ⊢ iprop(((ops V c ∗ RS c k 0 ∗ owesAny c (OI c (k.val + 1))) -∗ WP c (p ⟨⟩) Q) -∗ WP c (initK c k >>= p) Q) := by
  have hk : kOf k.val = k := Fin.ext (Nat.mod_eq_of_lt k.isLt)
  have hI : payI c k.val = tallyAt (recvCell (dn k c) k 1) 0 N := by unfold payI; rw [hk]
  unfold initK initStep RI RS
  simp only [bind_assoc]
  rw [toksR_first c k (a := 0) (by omega), toksS_first c k (a := 0) (by omega)]
  iintro ⟨#HC, HX, ⟨H1, H2, H3, H4, H5, H6, H7, ⟨HtR, H8⟩, ⟨HtS, H9⟩, H10, Hs⟩, Hd, HO⟩ Hk
  iapply (wp_loadX V c ⟨c.val, c.isLt⟩) $$ HX
  iintro HX
  iapply (wp_loadW V c k) $$ HX
  iintro HX
  unfold slotAny
  icases Hs with ⟨%f, Hs⟩
  iapply (wp_loadSlot c k 0 f) $$ Hs
  iintro Hs
  iapply (wp_storeSlot c k 0 f) $$ Hs
  iintro Hs
  iapply (wp_sendChunk V c K k (u := 0) (by omega) 0 1 rfl rfl (O₀ := OI c k.val) (OI c (k.val + 1)) (by rw [OI_step c k.isLt, hI])) $$ [Hs Hd HO HtS HtR]
  · isplitr; · iexact HC
    isplitl [Hs]; · iexact Hs
    isplitl [Hd]; · unfold slotAny; iexact Hd
    isplitr; · iapply (reached_at V c K (ixC k)); iexact HC
    isplitl [HO]; · iexact HO
    isplitl [HtS]; · iexact HtS
    isplitr; · iapply (reached_S V c K k 0); iexact HC
    isplitl [HtR]; · iexact HtR
    iapply (reached_R V (dn k c) K k 1); iexact HC
  iintro ⟨Hcs, HO⟩
  iapply Hk
  isplitl [HX]; · iexact HX
  isplitr [HO]
  · isplitl [H2]; · iexact H2
    isplitl [H1]; · iexact H1
    isplitl [H3]; · iexact H3
    isplitl [H4]; · iexact H4
    isplitl [H5]; · iexact H5
    isplitl [H6]; · iexact H6
    isplitl [H7]; · iexact H7
    isplitl [Hcs]; · iexact Hcs
    isplitl [H8]; · iexact H8
    isplitl [H9]; · iexact H9
    isplitl [H10]; · iexact H10
    isplitr; · iapply (reached_S V c K k 1); iexact HC
    iapply (reached_R V c K k 0); iexact HC
  iexact HO

/-- Before the first chunk of stream `j`. -/
def I0 (j : ℕ) : sProp 𝕄 :=
  iprop(ctx V K ∗ ops V c ∗ owesAny c (OI c j)
    ∗ bigSep Finset.univ fun k : Fin 4 => if k.val < j then ST V c k 0 else iprop(RI c k ∗ slotAny (F := F) (dn k c) k 1 ∗ SA V c k 6))

theorem wp_initBlk {Q : PUnit → sProp 𝕄} {j : ℕ} (hj : j < 4) (p : PUnit → P F PUnit) :
    I0 V c K j ⊢ iprop((I0 V c K (j + 1) -∗ WP c (p ⟨⟩) Q) -∗ WP c (initBlk c j >>= p) Q) := by
  have hv : (kOf j).val = j := Nat.mod_eq_of_lt hj
  unfold I0 initBlk
  iintro ⟨#HC, HX, HO, HB⟩ Hk
  ihave HB := (swap_one (kOf j) _ (fun k : Fin 4 => if k.val < j + 1 then ST V c k 0 else iprop(RI c k ∗ slotAny (F := F) (dn k c) k 1 ∗ SA V c k 6))
    (fun k' hk => by
      have : k'.val ≠ j := fun h => hk (Fin.ext (h.trans hv.symm))
      by_cases h : k'.val < j
      · rw [if_pos h, if_pos (by omega)]
      · rw [if_neg h, if_neg (by omega)])) $$ HB
  rw [if_neg (by omega : ¬ (kOf j).val < j), if_pos (by omega : (kOf j).val < j + 1)]
  icases HB with ⟨⟨HI, Hd, HA⟩, HB⟩
  iapply (wp_initK V c K (kOf j) p) $$ [HX HI Hd HO]
  · isplitr; · iexact HC
    isplitl [HX]; · iexact HX
    isplitl [HI]; · iexact HI
    isplitl [Hd]; · iexact Hd
    rw [hv]; iexact HO
  rw [hv]
  iintro ⟨HX, HS, HO⟩
  iapply Hk
  isplitr; · iexact HC
  isplitl [HX]; · iexact HX
  isplitl [HO]; · iexact HO
  iapply HB
  unfold ST SS
  rw [if_pos (by omega), if_pos (by omega)]
  isplitl [HS] <;> iassumption

/-! ## The steps in turn -/

/-- Before block `T`. -/
def I1 (T : ℕ) : sProp 𝕄 :=
  iprop(ctx V K ∗ ops V c ∗ owesAny c (OT c T) ∗ bigSep Finset.univ fun k : Fin 4 => ST V c k ((T + 3 - k.val) / 4))

theorem wp_blk {Q : PUnit → sProp 𝕄} {T : ℕ} (hT : T < 56) (p : PUnit → P F PUnit) :
    I1 V c K T ⊢ iprop((I1 V c K (T + 1) -∗ WP c (p ⟨⟩) Q) -∗ WP c (blk c (V.sc c) T >>= p) Q) := by
  have hv : (kOf T).val = T % 4 := rfl
  have hT' : 4 * (T / 4) + (kOf T).val = T := by rw [hv]; omega
  have h1 : (T + 3 - (kOf T).val) / 4 = T / 4 := by rw [hv]; omega
  have h2 : (T + 1 + 3 - (kOf T).val) / 4 = T / 4 + 1 := by rw [hv]; omega
  unfold I1 blk
  iintro ⟨#HC, HX, HO, HB⟩ Hk
  ihave HB := (swap_one (kOf T) _ (fun k : Fin 4 => ST V c k ((T + 1 + 3 - k.val) / 4))
    (fun k' hk => by
      have : k'.val ≠ T % 4 := fun h => hk (Fin.ext h)
      try dsimp only
      rw [show (T + 3 - k'.val) / 4 = (T + 1 + 3 - k'.val) / 4 by omega])) $$ HB
  rw [h1, h2]
  icases HB with ⟨HI, HB⟩
  have hs := wp_stepK (Q := Q) V c (kOf T) K (g := T / 4) (by omega) p
  rw [hT'] at hs
  iapply hs $$ [HX HI HO]
  · isplitr; · iexact HC
    isplitl [HX]; · iexact HX
    isplitl [HI] <;> iassumption
  iintro ⟨HX, HS, HO⟩
  iapply Hk
  isplitr; · iexact HC
  isplitl [HX]; · iexact HX
  isplitl [HO]; · iexact HO
  iapply HB
  iexact HS

/-! ## The last waits -/

/-- Before the last wait of stream `j`. -/
def I2 (j : ℕ) : sProp 𝕄 :=
  iprop(ctx V K ∗ ops V c ∗ owesAny c 0
    ∗ bigSep Finset.univ fun k : Fin 4 => if k.val < j then iprop(RE c k ∗ SA V c k 14) else iprop(RE c k ∗ SB V c k 13))

theorem wp_endBlk {Q : PUnit → sProp 𝕄} {j : ℕ} (hj : j < 4) (p : PUnit → P F PUnit) :
    I2 V c K j ⊢ iprop((I2 V c K (j + 1) -∗ WP c (p ⟨⟩) Q) -∗ WP c (endBlk c j >>= p) Q) := by
  have hv : (kOf j).val = j := Nat.mod_eq_of_lt hj
  unfold I2 endBlk
  iintro ⟨#HC, HX, HO, HB⟩ Hk
  ihave HB := (swap_one (kOf j) _ (fun k : Fin 4 => if k.val < j + 1 then iprop(RE c k ∗ SA V c k 14) else iprop(RE c k ∗ SB V c k 13))
    (fun k' hk => by
      have : k'.val ≠ j := fun h => hk (Fin.ext (h.trans hv.symm))
      by_cases h : k'.val < j
      · rw [if_pos h, if_pos (by omega)]
      · rw [if_neg h, if_neg (by omega)])) $$ HB
  rw [if_neg (by omega : ¬ (kOf j).val < j), if_pos (by omega : (kOf j).val < j + 1)]
  icases HB with ⟨⟨HE, HI⟩, HB⟩
  iapply (wp_stored V c (kOf j) K (n := 13) (by omega) (by omega) 0 (above_zero _) p) $$ [HI HO]
  · isplitr; · iexact HC
    isplitl [HI] <;> iassumption
  iintro ⟨HS, HO⟩
  iapply Hk
  isplitr; · iexact HC
  isplitl [HX]; · iexact HX
  isplitl [HO]; · iexact HO
  iapply HB
  isplitl [HE] <;> iassumption

/-- All the blocks. -/
theorem wp_blocks {Q : PUnit → sProp 𝕄} :
    I0 V c K 0 ⊢ iprop((I2 V c K 4 -∗ Q ⟨⟩) -∗ WP c (Pipeline.chain (blocks c (V.sc c))) Q) := by
  unfold blocks
  iintro H Hk
  iapply (wp_run c (I0 V c K) (initBlk c) _ 4 0 fun T _ h p => wp_initBlk V c K (by omega) p) $$ H
  iintro H
  have e1 : I0 V c K (0 + 4) ⊢ I1 V c K 0 := by
    unfold I0 I1
    rw [show (0 + 4 : ℕ) = 4 from rfl, OI_end]
    refine sep_mono_right (sep_mono_right (sep_mono_right (Entails.of_eq (bigSep_congr fun k _ => ?_))))
    rw [if_pos k.isLt, show (0 + 3 - k.val) / 4 = 0 by omega]
  ihave H := e1 $$ H
  iapply (wp_run c (I1 V c K) (blk c (V.sc c)) _ 56 0 fun T _ h p => wp_blk V c K (by omega) p) $$ H
  iintro H
  have e2 : I1 V c K (0 + 56) ⊢ I2 V c K 0 := by
    unfold I1 I2
    rw [show (0 + 56 : ℕ) = 56 from rfl, OT_end c (T := 56) (by omega)]
    refine sep_mono_right (sep_mono_right (sep_mono_right (Entails.of_eq (bigSep_congr fun k _ => ?_))))
    rw [if_neg (by omega), show (56 + 3 - k.val) / 4 = 14 by omega]
    unfold ST; rw [if_neg (by omega)]
  ihave H := e2 $$ H
  rw [← List.append_nil ((List.range' 0 4).map (endBlk c))]
  iapply (wp_run c (I2 V c K) (endBlk c) [] 4 0 fun T _ h p => wp_endBlk V c K (by omega) p) $$ H
  iintro H
  unfold WP
  rw [Pipeline.chain_nil, Prog.pure_eq_ret, wp_ret]
  imodintro
  iapply Hk $$ H

/-! ## The body -/

omit [FloatOps F] in
theorem bigSep_streams (A : Fin 4 → sProp 𝕄) : bigSep Finset.univ A = iprop(A 0 ∗ A 1 ∗ A 2 ∗ A 3) :=
  bigSep_univ_eq_bigSepL [(0 : Fin 4), 1, 2, 3] (by decide) (by decide) A

/-- The word a scale's buffer holds. -/
def word (f : (cc0_stg2_0 : Ref sig .tc).ty.Contents (Elt F)) : F .f32 :=
  sxM.view.readAt (Elt F) (Rect.unit (s := S1) ![0] S1.size inb_S1_S1_0).toLoadRect f (Shape.Idx.first (numel1_S1.symm ▸ Nat.one_pos))
def word' (f : (cc0_stg3_0 : Ref sig .tc).ty.Contents (Elt F)) : F .f32 :=
  swM.view.readAt (Elt F) (Rect.unit (s := S1) ![0] S1.size inb_S1_S1_0).toLoadRect f (Shape.Idx.first (numel1_S1.symm ▸ Nat.one_pos))

/-- What device `c`'s body starts from, its staging apart. -/
def pre : sProp 𝕄 :=
  iprop(owesAny c (O0 c) ∗ cred (tallyAt (barCell c) 0 2) ∗ atPos ER (barCell c) 0 ∅ 0
    ∗ dutyTok ER (barCell (lft c)) 0 false ∗ dutyTok ER (barCell (rgt c)) 0 true
    ∗ (bigSep Finset.univ fun k : Fin 4 => iprop(RI c k ∗ SA V c k 6))
    ∗ bigSep Finset.univ fun k : Fin 4 => slotAny (F := F) c k 1)
/-- What it leaves. -/
def post : sProp 𝕄 :=
  iprop(owesAny c 0 ∗ atPos ER (barCell c) 1 ∅ 0 ∗ bigSep Finset.univ fun k : Fin 4 => iprop(RE c k ∗ SA V c k 14))

set_option maxHeartbeats 1000000 in
theorem wp_body {Q : PUnit → sProp 𝕄} (fa : (cc0_stg2_0 : Ref sig .tc).ty.Contents (Elt F)) (fb : (cc0_stg3_0 : Ref sig .tc).ty.Contents (Elt F))
    (hsc : V.sc c = Scalar.mulf (word fa) (word' fb)) :
    iprop(ctx V K ∗ ops V c ∗ (sxM.view.loc (c : Thread nD τ) ↦{fullShare} fa) ∗ (swM.view.loc (c : Thread nD τ) ↦{fullShare} fb) ∗ pre V c)
      ⊢ iprop(((ops V c ∗ (sxM.view.loc (c : Thread nD τ) ↦{fullShare} fa) ∗ (swM.view.loc (c : Thread nD τ) ↦{fullShare} fb) ∗ post V c) -∗ Q ⟨⟩)
          -∗ WP c (body blocks lft rgt) Q) := by
  unfold body pre owesAny
  simp only [smemLoad, smemLoadElt, semSignalWord, semWaitWord, Prog.lift, Prog.bind_op, Prog.bind_ret, wp_deviceId]
  rw [bigSep_streams (fun k => slotAny (F := F) c k 1), bigSep_streams (fun k => iprop(RI c k ∗ SA V c k 6))]
  iintro ⟨#HC, HX, Ha, Hb, ⟨%W, HO⟩, Hcb, Hat, HtL, HtR, ⟨⟨R0, A0⟩, ⟨R1, A1⟩, ⟨R2, A2⟩, ⟨R3, A3⟩⟩, Hs0, Hs1, Hs2, Hs3⟩ Hk
  iapply (wp_load 𝒱₀ (c : Thread nD τ) none Set.univ (m := sxM) (Finset.subset_univ _)) $$ Ha
  iintro Ha
  iapply (wp_load 𝒱₀ (c : Thread nD τ) none Set.univ (m := swM) (Finset.subset_univ _)) $$ Hb
  iintro Hb
  iapply (Rounds.wp_signal 𝒱₀ ER (rd V) (c : Thread nD τ) none (dst := (lft c : Thread nD τ)) (κ := K (lft c, none))
      (r := 0) (d := false) (by rw [duties_bar]; exact Finset.mem_univ _) ((amount_bar V (lft c) 0 false).trans (by decide)) 0 (O1 c) rfl)
    $$ [HO HtL Hs0 Hs1]
  · isplitr; · iapply (inv_B V (lft c) K); iexact HC
    isplitl [HO]; · iexact HO
    isplitl [HtL]; · iexact HtL
    isplitl [Hs0 Hs1]
    · rw [payload_bar]; unfold barPay; rw [if_neg Bool.false_ne_true, rgt_lft]
      isplitl [Hs0] <;> iassumption
    iapply (reached_at V (lft c) K none); iexact HC
  iintro HO
  iapply (Rounds.wp_signal 𝒱₀ ER (rd V) (c : Thread nD τ) none (dst := (rgt c : Thread nD τ)) (κ := K (rgt c, none))
      (r := 0) (d := true) (by rw [duties_bar]; exact Finset.mem_univ _) ((amount_bar V (rgt c) 0 true).trans (by decide)) 0 (OI c 0) rfl)
    $$ [HO HtR Hs2 Hs3]
  · isplitr; · iapply (inv_B V (rgt c) K); iexact HC
    isplitl [HO]; · iexact HO
    isplitl [HtR]; · iexact HtR
    isplitl [Hs2 Hs3]
    · rw [payload_bar]; unfold barPay; rw [if_pos rfl, lft_rgt]
      isplitl [Hs2] <;> iassumption
    iapply (reached_at V (rgt c) K none); iexact HC
  iintro HO
  iapply (Rounds.wp_wait_rest_token 𝒱₀ ER (rd V) (c : Thread nD τ) none (κ := K (c, none))
      (wpE_semWait_eq 𝒱₀ (c : Thread nD τ) none Set.univ) (Set.mem_univ _) 0 (O := OI c 0) (W := W) (R := 0) (m := 0) (T := ∅)
      (by rw [expect_bar]; decide)) $$ [Hcb HO Hat]
  · isplitr; · iapply (inv_B V c K); iexact HC
    isplitl [Hcb]; · iexact Hcb
    isplitl [HO]; · iexact HO
    isplitr; · iapply (ctx_may V c K (.reg barS) 0 (by omega) (by rw [lv_bar]; exact OI_above c 0)); iexact HC
    iexact Hat
  iintro ⟨HO, Hat, -, Hpay⟩
  ihave Hp := (Entails.of_eq (rest_bar V c)) $$ Hpay
  unfold barPay
  rw [if_neg Bool.false_ne_true, if_pos rfl]
  icases Hp with ⟨⟨D0, D1⟩, D2, D3⟩
  have hw : Scalar.mulf (word fa) (word' fb) = V.sc c := hsc.symm
  unfold word word' at hw
  rw [hw]
  iapply (wp_blocks V c K (Q := Q)) $$ [HX HO R0 A0 R1 A1 R2 A2 R3 A3 D0 D1 D2 D3]
  · unfold I0 owesAny
    isplitr; · iexact HC
    isplitl [HX]; · iexact HX
    isplitl [HO]; · iexists _; iexact HO
    rw [bigSep_streams]
    simp only [Nat.not_lt_zero, if_false]
    isplitl [R0 A0 D0]
    · isplitl [R0]; · iexact R0
      isplitl [D0]; · iexact D0
      iexact A0
    isplitl [R1 A1 D1]
    · isplitl [R1]; · iexact R1
      isplitl [D1]; · iexact D1
      iexact A1
    isplitl [R2 A2 D2]
    · isplitl [R2]; · iexact R2
      isplitl [D2]; · iexact D2
      iexact A2
    isplitl [R3]; · iexact R3
    isplitl [D3]; · iexact D3
    iexact A3
  unfold I2
  iintro ⟨-, HX, HO, HB⟩
  iapply Hk
  isplitl [HX]; · iexact HX
  isplitl [Ha]; · iexact Ha
  isplitl [Hb]; · iexact Hb
  unfold post
  isplitl [HO]; · iexact HO
  isplitl [Hat]; · iexact Hat
  iapply (Entails.of_eq (bigSep_congr fun (k : Fin 4) _ => if_pos (c := k.val < 4) k.isLt)) $$ HB

end Cert.Collective

end
-- ==== Proof.Split.lean ====
/- The buffers cut into slots, staging tiles and tiles of the result, and put back. -/
module

public import proofs.«01_k».proof.Proof.Steps
public import Idealize.ShloMosaic.Lib.Ring

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The sets -/

/-- The elements of a slot. -/
theorem slot_mem (k : Fin 4) (s : Fin 2) (i : (cc0_scratch0 : Ref sig .tc).ty.Idx) :
    i ∈ (slot k s).view.set ↔ (i (0 : Fin 4) : ℕ) = k.val ∧ (i (1 : Fin 4) : ℕ) = s.val := by
  rw [← slot_set, show (bufsM.access (slotR k s)).set = (slotR k s).set from View.set_slice_whole _ _, Rect.mem_set_unit]
  have h2 : (i (2 : Fin 4) : ℕ) < 512 := (i (2 : Fin 4)).isLt
  have h3 : (i (3 : Fin 4) : ℕ) < 2048 := (i (3 : Fin 4)).isLt
  constructor
  · intro h
    have h0 : k.val ≤ (i (0 : Fin 4) : ℕ) ∧ (i (0 : Fin 4) : ℕ) < k.val + 1 := h 0
    have h1 : s.val ≤ (i (1 : Fin 4) : ℕ) ∧ (i (1 : Fin 4) : ℕ) < s.val + 1 := h 1
    omega
  · rintro ⟨h0, h1⟩ a
    fin_cases a
    · show k.val ≤ (i (0 : Fin 4) : ℕ) ∧ (i (0 : Fin 4) : ℕ) < k.val + 1; omega
    · show s.val ≤ (i (1 : Fin 4) : ℕ) ∧ (i (1 : Fin 4) : ℕ) < s.val + 1; omega
    · show 0 ≤ (i (2 : Fin 4) : ℕ) ∧ (i (2 : Fin 4) : ℕ) < 0 + 512; omega
    · show 0 ≤ (i (3 : Fin 4) : ℕ) ∧ (i (3 : Fin 4) : ℕ) < 0 + 2048; omega

/-- The elements of a staging tile. -/
theorem pch_mem (k : Fin 4) (i : (cc0_scratch1 : Ref sig .tc).ty.Idx) : i ∈ (pch k).view.set ↔ (i (0 : Fin 3) : ℕ) = k.val := by
  rw [← pch_set, show (pchM.access (pchR k)).set = (pchR k).set from View.set_slice_whole _ _, Rect.mem_set_unit]
  have h1 : (i (1 : Fin 3) : ℕ) < 512 := (i (1 : Fin 3)).isLt
  have h2 : (i (2 : Fin 3) : ℕ) < 2048 := (i (2 : Fin 3)).isLt
  constructor
  · intro h
    have h0 : k.val ≤ (i (0 : Fin 3) : ℕ) ∧ (i (0 : Fin 3) : ℕ) < k.val + 1 := h 0
    omega
  · intro h0 a
    fin_cases a
    · show k.val ≤ (i (0 : Fin 3) : ℕ) ∧ (i (0 : Fin 3) : ℕ) < k.val + 1; omega
    · show 0 ≤ (i (1 : Fin 3) : ℕ) ∧ (i (1 : Fin 3) : ℕ) < 0 + 512; omega
    · show 0 ≤ (i (2 : Fin 3) : ℕ) ∧ (i (2 : Fin 3) : ℕ) < 0 + 2048; omega

/-- The elements of a tile of the result. -/
theorem tl_mem (k : Fin 4) (j : Fin 8) (i : (main_v1 : Ref sig .tc).ty.Idx) :
    i ∈ (tl k j).view.set ↔ (i (0 : Fin 2) : ℕ) / 512 = j.val ∧ (i (1 : Fin 2) : ℕ) / 2048 = k.val := by
  rw [show (tl k j).view.set = (Rect.unit (s := S4096x8192) (tOff k j) S512x2048.size (tInb k j)).set from View.set_slice_whole _ _, Rect.mem_set_unit]
  constructor
  · intro h
    have h0 : 512 * j.val ≤ (i (0 : Fin 2) : ℕ) ∧ (i (0 : Fin 2) : ℕ) < 512 * j.val + 512 := h 0
    have h1 : 2048 * k.val ≤ (i (1 : Fin 2) : ℕ) ∧ (i (1 : Fin 2) : ℕ) < 2048 * k.val + 2048 := h 1
    omega
  · rintro ⟨h0, h1⟩ a
    fin_cases a
    · show 512 * j.val ≤ (i (0 : Fin 2) : ℕ) ∧ (i (0 : Fin 2) : ℕ) < 512 * j.val + 512; omega
    · show 2048 * k.val ≤ (i (1 : Fin 2) : ℕ) ∧ (i (1 : Fin 2) : ℕ) < 2048 * k.val + 2048; omega

/-- The element sets, in their buffers. -/
abbrev slotSet (p : Fin 4 × Fin 2) : Finset (cc0_scratch0 : Ref sig .tc).ty.Idx := (slot p.1 p.2).view.set
abbrev pchSet (p : Fin 4) : Finset (cc0_scratch1 : Ref sig .tc).ty.Idx := (pch p).view.set
abbrev tlSet (p : Fin 4 × Fin 8) : Finset (main_v1 : Ref sig .tc).ty.Idx := (tl p.1 p.2).view.set

theorem slots_disjoint (p q : Fin 4 × Fin 2) (h : p ≠ q) : Disjoint (slotSet p) (slotSet q) := by
  rw [Finset.disjoint_left]
  intro i hp hq
  have h1 := (slot_mem _ _ i).mp hp
  have h2 := (slot_mem _ _ i).mp hq
  exact h (Prod.ext (Fin.ext (h1.1.symm.trans h2.1)) (Fin.ext (h1.2.symm.trans h2.2)))
theorem slots_cover : (Finset.univ : Finset (Fin 4 × Fin 2)).biUnion slotSet = Finset.univ := by
  ext i
  simp only [Finset.mem_biUnion, Finset.mem_univ, true_and, iff_true]
  exact ⟨(⟨i (0 : Fin 4), (i (0 : Fin 4)).isLt⟩, ⟨i (1 : Fin 4), (i (1 : Fin 4)).isLt⟩), (slot_mem _ _ i).mpr ⟨rfl, rfl⟩⟩
theorem pchs_disjoint (p q : Fin 4) (h : p ≠ q) : Disjoint (pchSet p) (pchSet q) := by
  rw [Finset.disjoint_left]
  intro i hp hq
  exact h (Fin.ext (((pch_mem _ i).mp hp).symm.trans ((pch_mem _ i).mp hq)))
theorem pchs_cover : (Finset.univ : Finset (Fin 4)).biUnion pchSet = Finset.univ := by
  ext i
  simp only [Finset.mem_biUnion, Finset.mem_univ, true_and, iff_true]
  exact ⟨⟨i (0 : Fin 3), (i (0 : Fin 3)).isLt⟩, (pch_mem _ i).mpr rfl⟩
theorem tls_disjoint (p q : Fin 4 × Fin 8) (h : p ≠ q) : Disjoint (tlSet p) (tlSet q) := by
  rw [Finset.disjoint_left]
  intro i hp hq
  have h1 := (tl_mem _ _ i).mp hp
  have h2 := (tl_mem _ _ i).mp hq
  exact h (Prod.ext (Fin.ext (h1.2.symm.trans h2.2)) (Fin.ext (h1.1.symm.trans h2.1)))
theorem tls_cover : (Finset.univ : Finset (Fin 4 × Fin 8)).biUnion tlSet = Finset.univ := by
  refine Finset.eq_univ_iff_forall.mpr fun i => ?_
  have h0 : (i (0 : Fin 2) : ℕ) < 4096 := (i (0 : Fin 2)).isLt
  have h1 : (i (1 : Fin 2) : ℕ) < 8192 := (i (1 : Fin 2)).isLt
  have hj : (i (0 : Fin 2) : ℕ) / 512 < 8 := by omega
  have hk : (i (1 : Fin 2) : ℕ) / 2048 < 4 := by omega
  generalize hJ : (⟨(i (0 : Fin 2) : ℕ) / 512, hj⟩ : Fin 8) = J
  generalize hK : (⟨(i (1 : Fin 2) : ℕ) / 2048, hk⟩ : Fin 4) = K
  exact Finset.mem_biUnion.mpr ⟨(K, J), Finset.mem_univ _, (tl_mem K J i).mpr ⟨congrArg Fin.val hJ, congrArg Fin.val hK⟩⟩

/-- The tiles a device stores of a stream are all of the stream's. -/
theorem ag_image (c : Dev nD) (k : Fin 4) : (Finset.Ico 6 14).image (agC c k) = Finset.univ := by revert c k; decide
theorem ag_inj (c : Dev nD) (k : Fin 4) : Set.InjOn (agC c k) (Finset.Ico 6 14) := by
  have h : ∀ (c : Dev nD) (k : Fin 4), ∀ a ∈ Finset.Ico 6 14, ∀ b ∈ Finset.Ico 6 14, agC c k a = agC c k b → a = b := by decide
  exact fun a ha b hb e => h c k a ha b hb e

/-! ## The buffers -/

variable (c : Dev nD)

omit [FloatOps F] in
theorem slot_any (k : Fin 4) (s : Fin 2) (f) : slotPts (F := F) c k s f ⊢ slotAny c k s := by
  unfold slotAny; iintro H; iexists f; iexact H
omit [FloatOps F] in
theorem pch_any (k : Fin 4) (f) : pchPts (F := F) c k f ⊢ pchAny c k := by
  unfold pchAny; iintro H; iexists f; iexact H
omit [FloatOps F] in
theorem tile_any (k : Fin 4) (j : Fin 8) (f) : tilePts (F := F) c k j f ⊢ tileAny c k j := by
  unfold tileAny; iintro H; iexists f; iexact H

omit [FloatOps F] in
/-- The travelling chunks' buffer, slot by slot, -/
theorem bufs_split (f : Buf (Elt F) ((c : Thread nD τ).loc cc0_scratch0)) :
    (((c : Thread nD τ).loc cc0_scratch0) ↦{fullShare} f : sProp 𝕄)
      ⊢ bigSep Finset.univ fun k : Fin 4 => iprop(slotAny (F := F) c k 0 ∗ slotAny (F := F) c k 1) := by
  rw [Ring.pointsTo_blocks slotSet slots_disjoint slots_cover f, bigSep_univ_prod]
  refine bigSep_mono fun k _ => ?_
  rw [bigSep_univ_two]
  exact BI.sep_mono (slot_any c k 0 f) (slot_any c k 1 f)
omit [FloatOps F] in
/-- and back; -/
theorem bufs_join (f₀ : Buf (Elt F) ((c : Thread nD τ).loc cc0_scratch0)) :
    (bigSep Finset.univ fun k : Fin 4 => iprop(slotAny (F := F) c k 0 ∗ slotAny (F := F) c k 1))
      ⊢ (iprop(∃ f, ((c : Thread nD τ).loc cc0_scratch0) ↦{fullShare} f) : sProp 𝕄) := by
  have h := Ring.pointsTo_blocks_join_exists (Ix := ℕ) (Name := ℕ) (U := UU) (Lvl := ℕ) (q := fullShare) (ℓ := (c : Thread nD τ).loc cc0_scratch0) slotSet slots_disjoint slots_cover f₀
  rw [bigSep_univ_prod] at h
  refine (Entails.of_eq (bigSep_congr fun k _ => ?_)).trans h
  rw [bigSep_univ_two]
  rfl
omit [FloatOps F] in
/-- the stores' staging, tile by tile, -/
theorem pchs_split (f : Buf (Elt F) ((c : Thread nD τ).loc cc0_scratch1)) :
    (((c : Thread nD τ).loc cc0_scratch1) ↦{fullShare} f : sProp 𝕄) ⊢ bigSep Finset.univ fun k : Fin 4 => pchAny (F := F) c k := by
  rw [Ring.pointsTo_blocks pchSet pchs_disjoint pchs_cover f]
  exact bigSep_mono fun k _ => pch_any c k f
omit [FloatOps F] in
/-- and back; -/
theorem pchs_join (f₀ : Buf (Elt F) ((c : Thread nD τ).loc cc0_scratch1)) :
    (bigSep Finset.univ fun k : Fin 4 => pchAny (F := F) c k) ⊢ (iprop(∃ f, ((c : Thread nD τ).loc cc0_scratch1) ↦{fullShare} f) : sProp 𝕄) := by
  unfold pchAny pchPts
  exact Ring.pointsTo_blocks_join_exists (ℓ := (c : Thread nD τ).loc cc0_scratch1) pchSet pchs_disjoint pchs_cover f₀
omit [FloatOps F] in
/-- the result, in each stream in the order of its stores. -/
theorem out_split (f : Buf (Elt F) ((c : Thread nD τ).loc main_v1)) :
    (((c : Thread nD τ).loc main_v1) ↦{fullShare} f : sProp 𝕄) ⊢ bigSep Finset.univ fun k : Fin 4 => tilesAny (F := F) c k 6 := by
  rw [Ring.pointsTo_blocks tlSet tls_disjoint tls_cover f, bigSep_univ_prod]
  refine bigSep_mono fun k _ => ?_
  rw [← ag_image c k, bigSep_image_of_injOn (ag_inj c k)]
  exact bigSep_mono fun u _ => tile_any c k (agC c k u) f

end Cert.Collective

end
-- ==== Proof.Deal.lean ====
/- The launch: the tokens and credits dealt, and the cells' invariants set up. -/
module

public import proofs.«01_k».proof.Proof.Body
public import proofs.«01_k».proof.Proof.Split

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over intervals and over cells -/

omit [FloatOps F] in
/-- A family over `Fin n` as one over an interval. -/
theorem bigSep_fin (n : ℕ) (A : ℕ → sProp 𝕄) : (bigSep Finset.univ fun u : Fin n => A u.val) = bigSep (Finset.Ico 0 n) A := by
  have h : Finset.Ico 0 n = Finset.univ.map (Fin.valEmbedding (n := n)) := by
    ext x
    rw [Finset.mem_Ico, Finset.mem_map]
    exact ⟨fun hx => ⟨⟨x, hx.2⟩, Finset.mem_univ _, rfl⟩, fun ⟨y, _, hy⟩ => hy ▸ ⟨Nat.zero_le _, y.isLt⟩⟩
  rw [h, bigSep_map]; rfl

omit [FloatOps F] in
/-- A family over a shifted interval. -/
theorem bigSep_shift (A : ℕ → sProp 𝕄) (n k : ℕ) : (bigSep (Finset.Ico 0 n) fun g => A (g + k)) = bigSep (Finset.Ico (0 + k) (n + k)) A := by
  have h : Finset.Ico (0 + k) (n + k) = (Finset.Ico 0 n).map (addRightEmbedding k) := by
    ext x
    rw [Finset.mem_Ico, Finset.mem_map]
    exact ⟨fun hx => ⟨x - k, by rw [Finset.mem_Ico]; omega, by show x - k + k = x; omega⟩,
      fun ⟨y, hy, e⟩ => by rw [Finset.mem_Ico] at hy; have e' : y + k = x := e; omega⟩
  rw [h, bigSep_map]; rfl
omit [FloatOps F] in
/-- Two families in the other order. -/
theorem bigSep_swap {I J : Type} [Fintype I] [Fintype J] (A : I → J → sProp 𝕄) :
    (bigSep Finset.univ fun i : I => bigSep Finset.univ fun j : J => A i j) = bigSep Finset.univ fun j : J => bigSep Finset.univ fun i : I => A i j := by
  rw [← bigSep_univ_prod fun p : I × J => A p.1 p.2, ← bigSep_univ_prod fun p : J × I => A p.2 p.1, bigSep_univ_equiv (Equiv.prodComm J I)]
  rfl
omit [FloatOps F] in
/-- A device's cells: the barrier's, and six for each stream. -/
theorem bigSep_CI (A : CI → sProp 𝕄) : bigSep Finset.univ A = iprop(A none ∗ bigSep Finset.univ fun p : Fin 4 × Fin 6 => A (some p)) := by
  have h : (Finset.univ : Finset CI).erase none = Finset.univ.map (Function.Embedding.some (α := Fin 4 × Fin 6)) := by decide
  rw [bigSep_univ_at _ none, h, bigSep_map]; rfl
omit [FloatOps F] in
theorem bigSep_six (A : Fin 6 → sProp 𝕄) : bigSep Finset.univ A = iprop(A 0 ∗ A 1 ∗ A 2 ∗ A 3 ∗ A 4 ∗ A 5) :=
  bigSep_univ_eq_bigSepL [0, 1, 2, 3, 4, 5] (by decide) (by decide) A
omit [FloatOps F] in
theorem bigSep_CI6 (A : CI → sProp 𝕄) : bigSep Finset.univ A = iprop(A none ∗ bigSep Finset.univ fun k : Fin 4 =>
    iprop(A (some (k, 0)) ∗ A (some (k, 1)) ∗ A (some (k, 2)) ∗ A (some (k, 3)) ∗ A (some (k, 4)) ∗ A (some (k, 5)))) := by
  rw [bigSep_CI, bigSep_univ_prod]
  refine congrArg (fun X => iprop(A none ∗ X)) (bigSep_congr fun k _ => ?_)
  exact bigSep_six fun j => A (some (k, j))

/-! ## The cells and tokens minted -/

theorem kcell_injective : Function.Injective kcell := by
  rintro ⟨c, x⟩ ⟨c', x'⟩ h
  have h1 : c = c' := congrArg (fun g : GSem nD τ sig => g.1.1) h
  have h2 : csem x = csem x' := congrArg Prod.snd h
  have h3 : some x = some x' := by rw [← dec_csem x, h2, dec_csem]
  rw [h1, Option.some.inj h3]
def ringCells : Finset (GSem nD τ sig) := Finset.univ.map ⟨kcell, kcell_injective⟩

/-- The tokens of a device's cells: the barrier's two, and per stream the arrivals', the departures', the credits' and the
    stores'. -/
abbrev Tok : Type := Bool ⊕ (Fin 4 × Fin 4 × Fin 14)
/-- A token's semaphore, round and duty. -/
def tokS : Tok → SemLoc sig × ℕ × Bool
  | .inl b => (.reg barS, 0, b)
  | .inr (k, 0, u) => (.dma (recvS k (sl (u.val + 1))), u.val / 2, false)
  | .inr (k, 1, u) => (.dma (sendS k (sl u.val)), u.val / 2, false)
  | .inr (k, 2, u) => (.reg (credS k), u.val, false)
  | .inr (k, 3, u) => (.dma (storeS k), u.val, false)
/-- The token back from these. -/
def tokD (x : SemLoc sig × ℕ × Bool) : Option Tok :=
  match dec x.1 with
  | none => none
  | some none => some (.inl x.2.2)
  | some (some (k, j)) =>
    let mk (a : Fin 4) (u : ℕ) : Option Tok := if h : u < 14 then some (.inr (k, a, ⟨u, h⟩)) else none
    if j = 0 then mk 0 (2 * x.2.1 + 1) else if j = 1 then mk 0 (2 * x.2.1)
    else if j = 2 then mk 1 (2 * x.2.1) else if j = 3 then mk 1 (2 * x.2.1 + 1)
    else if j = 4 then mk 2 x.2.1 else mk 3 x.2.1
set_option maxRecDepth 20000 in
theorem tokD_tokS (t : Tok) : tokD (tokS t) = some t := by revert t; decide +kernel
abbrev tokOf (p : Dev nD × Tok) : GSem nD τ sig × ℕ × Bool := (((p.1 : Thread nD τ), (tokS p.2).1), (tokS p.2).2)
theorem tokOf_injective : Function.Injective tokOf := by
  rintro ⟨c, t⟩ ⟨c', t'⟩ h
  have h1 : c = c' := congrArg (fun x : GSem nD τ sig × ℕ × Bool => x.1.1.1) h
  have h2 : tokS t = tokS t' := congrArg (fun x : GSem nD τ sig × ℕ × Bool => (x.1.2, x.2)) h
  have h3 : some t = some t' := by rw [← tokD_tokS t, h2, tokD_tokS]
  rw [h1, Option.some.inj h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

section Own
variable (c : Dev nD) (k : Fin 4)
/-- The tokens of a device's own cells, stream by stream. -/
def ownR : sProp 𝕄 := bigSep (Finset.Ico 0 14) fun u => dutyTok ER (recvCell c k (sl (u + 1))) (u / 2) false
def ownS : sProp 𝕄 := bigSep (Finset.Ico 0 14) fun u => dutyTok ER (sendCell c k (sl u)) (u / 2) false
def ownC : sProp 𝕄 := bigSep (Finset.Ico 0 14) fun u => dutyTok ER (credCell c k) u false
def ownT : sProp 𝕄 := bigSep (Finset.Ico 0 14) fun u => dutyTok ER (storeCell c k) u false
/-- The tokens of a device's own cells. -/
def toks : sProp 𝕄 :=
  iprop(dutyTok ER (barCell c) 0 false ∗ dutyTok ER (barCell c) 0 true
    ∗ bigSep Finset.univ fun k : Fin 4 => iprop(ownR c k ∗ ownS c k ∗ ownC c k ∗ ownT c k))
/-- The tokens of the duties a device pays. -/
def payToks : sProp 𝕄 :=
  iprop(dutyTok ER (barCell (lft c)) 0 false ∗ dutyTok ER (barCell (rgt c)) 0 true
    ∗ bigSep Finset.univ fun k : Fin 4 => iprop(toksR c k 0 ∗ toksS c k 0 ∗ toksC c k 0 ∗ toksT c k 6))
end Own

omit [FloatOps F] in
theorem toks_minted (c : Dev nD) :
    (bigSep Finset.univ fun t : Tok => (dutyTok ER (tokOf (c, t)).1 (tokOf (c, t)).2.1 (tokOf (c, t)).2.2 : sProp 𝕄)) ⊢ toks c := by
  rw [bigSep_univ_sum, bigSep_univ_prod, bigSep_univ_eq_bigSepL [false, true] (by decide) (by decide), bigSepL_cons_cons, bigSepL_singleton]
  have h (k : Fin 4) : (bigSep Finset.univ fun b : Fin 4 × Fin 14 => (dutyTok ER (tokOf (c, .inr (k, b))).1 (tokOf (c, .inr (k, b))).2.1 (tokOf (c, .inr (k, b))).2.2 : sProp 𝕄))
      = iprop(ownR c k ∗ ownS c k ∗ ownC c k ∗ ownT c k) := by
    rw [bigSep_univ_prod, bigSep_streams]
    unfold ownR ownS ownC ownT
    rw [← bigSep_fin, ← bigSep_fin, ← bigSep_fin, ← bigSep_fin]
    rfl
  rw [bigSep_congr fun k _ => h k]
  unfold toks
  show iprop((dutyTok ER (barCell c) 0 false ∗ dutyTok ER (barCell c) 0 true) ∗ _) ⊢ _
  iintro ⟨⟨H1, H2⟩, H3⟩
  isplitl [H1]; · iexact H1
  isplitl [H2]; · iexact H2
  iexact H3

/-! ## The tokens dealt around the ring -/

/-- The neighbours as permutations of the devices. -/
def lftE : Dev nD ≃ Dev nD := ⟨lft, rgt, rgt_lft, lft_rgt⟩
def rgtE : Dev nD ≃ Dev nD := ⟨rgt, lft, lft_rgt, rgt_lft⟩
def dnE (k : Fin 4) : Dev nD ≃ Dev nD := ⟨dn k, up k, up_dn k, dn_up k⟩
def upE (k : Fin 4) : Dev nD ≃ Dev nD := ⟨up k, dn k, dn_up k, up_dn k⟩

omit [FloatOps F] in
/-- Per stream, every device's share passed to a neighbour. -/
theorem around (e : Fin 4 → Dev nD ≃ Dev nD) (A : Dev nD → Fin 4 → sProp 𝕄) :
    (bigSep Finset.univ fun c : Dev nD => bigSep Finset.univ fun k : Fin 4 => A c k) = bigSep Finset.univ fun c : Dev nD => bigSep Finset.univ fun k : Fin 4 => A (e k c) k := by
  rw [bigSep_swap A, bigSep_swap fun c k => A (e k c) k]
  exact bigSep_congr fun k _ => bigSep_univ_equiv (e k) fun c => A c k

omit [FloatOps F] in
theorem ownC_toksC (c : Dev nD) (k : Fin 4) : ownC (F := F) (up k c) k ⊢ toksC c k 0 := by
  unfold ownC toksC
  exact bigSep_subset fun u hu => by rw [Finset.mem_Ico] at hu ⊢; omega
omit [FloatOps F] in
theorem ownT_toksT (c : Dev nD) (k : Fin 4) : ownT (F := F) c k ⊢ toksT c k 6 := by
  unfold ownT toksT
  have h := bigSep_shift (fun u => (dutyTok ER (storeCell c k) (u - 6) false : sProp 𝕄)) 8 6
  rw [show Finset.Ico 6 14 = Finset.Ico (0 + 6) (8 + 6) from rfl, ← h]
  exact bigSep_subset fun u hu => by rw [Finset.mem_Ico] at hu ⊢; omega

omit [FloatOps F] in
theorem toks_around : (bigSep Finset.univ fun c : Dev nD => (toks c : sProp 𝕄)) ⊢ bigSep Finset.univ fun c : Dev nD => payToks c := by
  have h : (bigSep Finset.univ fun c : Dev nD => (toks c : sProp 𝕄)) = bigSep Finset.univ fun c : Dev nD =>
      iprop(dutyTok ER (barCell (lft c)) 0 false ∗ dutyTok ER (barCell (rgt c)) 0 true
        ∗ bigSep Finset.univ fun k : Fin 4 => iprop(ownR (dn k c) k ∗ ownS c k ∗ ownC (up k c) k ∗ ownT c k)) := by
    unfold toks
    simp only [bigSep_sep']
    rw [bigSep_univ_equiv lftE (fun c : Dev nD => (dutyTok ER (barCell c) 0 false : sProp 𝕄)),
      bigSep_univ_equiv rgtE (fun c : Dev nD => (dutyTok ER (barCell c) 0 true : sProp 𝕄)), around dnE fun c k => ownR c k, around upE fun c k => ownC c k]
    rfl
  rw [h]
  refine bigSep_mono fun c _ => ?_
  unfold payToks
  have hk : (bigSep Finset.univ fun k : Fin 4 => iprop(ownR (dn k c) k ∗ ownS c k ∗ ownC (up k c) k ∗ ownT c k))
      ⊢ (bigSep Finset.univ fun k : Fin 4 => iprop(toksR c k 0 ∗ toksS c k 0 ∗ toksC c k 0 ∗ toksT c k 6) : sProp 𝕄) :=
    bigSep_mono fun k _ => sep_mono_right (sep_mono_right (BIClass.sep_mono (ownC_toksC c k) (ownT_toksT c k)))
  exact sep_mono_right (sep_mono_right hk)

/-! ## The credits dealt -/

omit [FloatOps F] in
/-- The blocks, stream by stream. -/
theorem bigSep_blocks (A : Fin 4 → ℕ → sProp 𝕄) :
    (bigSep (Finset.Ico 0 52) fun i => A (kOf i) (i / 4)) = bigSep Finset.univ fun k : Fin 4 => bigSep (Finset.Ico 0 13) (A k) := by
  have h : Finset.Ico 0 52 = Finset.univ.image fun p : Fin 4 × Fin 13 => 4 * p.2.val + p.1.val := by decide
  have hi : Set.InjOn (fun p : Fin 4 × Fin 13 => 4 * p.2.val + p.1.val) (Finset.univ : Finset (Fin 4 × Fin 13)) := by
    intro p _ q _ hpq
    have h1 : 4 * p.2.val + p.1.val = 4 * q.2.val + q.1.val := hpq
    exact Prod.ext (Fin.ext (by omega)) (Fin.ext (by omega))
  rw [h, bigSep_image_of_injOn hi, bigSep_univ_prod]
  refine bigSep_congr fun k _ => ?_
  rw [← bigSep_fin]
  refine bigSep_congr fun g _ => ?_
  have h1 : kOf (4 * g.val + k.val) = k := Fin.ext (by show (4 * g.val + k.val) % 4 = k.val; omega)
  have h2 : (4 * g.val + k.val) / 4 = g.val := by omega
  show A (kOf (4 * g.val + k.val)) ((4 * g.val + k.val) / 4) = _
  rw [h1, h2]

omit [FloatOps F] in
theorem launch_R (c : Dev nD) (i : ℕ) : (Pipeline.launchCred (fun d => payR d i) c : sProp 𝕄) ⊢ cred (tallyAt (recvCell c (kOf i) (sl (i / 4))) (i / 4 + 1) N) :=
  Pipeline.launchCred_tallyAt (.dma (recvS (kOf i) (sl (i / 4)))) (dn (kOf i)) (up (kOf i)) (dn_up _) (up_dn _) (i / 4 + 1) N c
omit [FloatOps F] in
theorem launch_C (c : Dev nD) (i : ℕ) : (Pipeline.launchCred (fun d => payC d i) c : sProp 𝕄) ⊢ cred (tallyAt (credCell c (kOf i)) (i / 4) 1) :=
  Pipeline.launchCred_tallyAt (.reg (credS (kOf i))) (up (kOf i)) (dn (kOf i)) (up_dn _) (dn_up _) (i / 4) 1 c
omit [FloatOps F] in
theorem launch_I (c : Dev nD) (i : ℕ) : (Pipeline.launchCred (fun d => payI d i) c : sProp 𝕄) ⊢ cred (tallyAt (recvCell c (kOf i) 1) 0 N) :=
  Pipeline.launchCred_tallyAt (.dma (recvS (kOf i) 1)) (dn (kOf i)) (up (kOf i)) (dn_up _) (up_dn _) 0 N c

theorem credsR_all (c : Dev nD) (k : Fin 4) :
    iprop(cred (tallyAt (recvCell c k 1) 0 N) ∗ bigSep (Finset.Ico 0 13) fun g => (cred (tallyAt (recvCell c k (sl g)) (g + 1) N) : sProp 𝕄)) ⊢ credsR c k 0 := by
  rw [credsR_first c k (by decide : 0 < 14)]
  have h := bigSep_shift (fun u => (cred (tallyAt (recvCell c k (sl (u + 1))) u N) : sProp 𝕄)) 13 1
  unfold credsR
  rw [show Finset.Ico (0 + 1) 14 = Finset.Ico (0 + 1) (13 + 1) from rfl, ← h]
  simp only [sl_two]
  exact .rfl

/-- What a device may wait for, dealt at the launch. -/
theorem creds (c : Dev nD) : (Pipeline.launchCred O0 c : sProp 𝕄)
    ⊢ iprop(cred (tallyAt (barCell c) 0 2) ∗ bigSep Finset.univ fun k : Fin 4 => iprop(credsR c k 0 ∗ credsC c k 0)) := by
  have e : O0 = fun d => (((∑ i ∈ Finset.Ico 0 52, (payR d i + payC d i)) + ∑ i ∈ Finset.Ico 0 4, payI d i) + tallyAt (barCell (rgt d)) 0 1) + tallyAt (barCell (lft d)) 0 1 := rfl
  rw [e, Pipeline.launchCred_add, Pipeline.launchCred_add, Pipeline.launchCred_add, Pipeline.launchCred_sum, Pipeline.launchCred_sum]
  have h1 : (bigSep (Finset.Ico 0 52) fun i => (Pipeline.launchCred (fun d => payR d i + payC d i) c : sProp 𝕄))
      ⊢ iprop((bigSep Finset.univ fun k : Fin 4 => bigSep (Finset.Ico 0 13) fun g => cred (tallyAt (recvCell c k (sl g)) (g + 1) N))
        ∗ bigSep Finset.univ fun k : Fin 4 => bigSep (Finset.Ico 0 13) fun g => cred (tallyAt (credCell c k) g 1)) := by
    rw [← bigSep_blocks fun k g => cred (tallyAt (recvCell c k (sl g)) (g + 1) N), ← bigSep_blocks fun k g => cred (tallyAt (credCell c k) g 1), ← bigSep_sep']
    refine bigSep_mono fun i _ => ?_
    rw [Pipeline.launchCred_add]
    exact BIClass.sep_mono (launch_R c i) (launch_C c i)
  have h2 : (bigSep (Finset.Ico 0 4) fun i => (Pipeline.launchCred (fun d => payI d i) c : sProp 𝕄)) ⊢ bigSep Finset.univ fun k : Fin 4 => cred (tallyAt (recvCell c k 1) 0 N) := by
    rw [← bigSep_fin]
    refine bigSep_mono fun k _ => ?_
    have hk : kOf k.val = k := Fin.ext (Nat.mod_eq_of_lt k.isLt)
    have := launch_I (F := F) c k.val
    rw [hk] at this; exact this
  have h3 : (Pipeline.launchCred (fun d => tallyAt (barCell (rgt d)) 0 1) c : sProp 𝕄) ⊢ cred (tallyAt (barCell c) 0 1) :=
    Pipeline.launchCred_tallyAt (.reg barS) rgt lft rgt_lft lft_rgt 0 1 c
  have h4 : (Pipeline.launchCred (fun d => tallyAt (barCell (lft d)) 0 1) c : sProp 𝕄) ⊢ cred (tallyAt (barCell c) 0 1) :=
    Pipeline.launchCred_tallyAt (.reg barS) lft rgt lft_rgt rgt_lft 0 1 c
  have h5 : iprop((bigSep Finset.univ fun k : Fin 4 => (cred (tallyAt (recvCell c k 1) 0 N) : sProp 𝕄))
      ∗ (bigSep Finset.univ fun k : Fin 4 => bigSep (Finset.Ico 0 13) fun g => cred (tallyAt (recvCell c k (sl g)) (g + 1) N))
      ∗ bigSep Finset.univ fun k : Fin 4 => bigSep (Finset.Ico 0 13) fun g => cred (tallyAt (credCell c k) g 1))
      ⊢ bigSep Finset.univ fun k : Fin 4 => iprop(credsR c k 0 ∗ credsC c k 0) := by
    rw [← bigSep_sep', ← bigSep_sep']
    refine bigSep_mono fun k _ => ?_
    have hR := credsR_all (F := F) c k
    show iprop(cred (tallyAt (recvCell c k 1) 0 N) ∗ (bigSep (Finset.Ico 0 13) fun g => cred (tallyAt (recvCell c k (sl g)) (g + 1) N)) ∗ bigSep (Finset.Ico 0 13) fun g => cred (tallyAt (credCell c k) g 1)) ⊢ (_ : sProp 𝕄)
    iintro ⟨H1, H2, H3⟩
    isplitl [H1 H2]
    · iapply hR; isplitl [H1] <;> iassumption
    · unfold credsC; iexact H3
  have h6 : iprop(cred (tallyAt (barCell c) 0 1) ∗ cred (tallyAt (barCell c) 0 1)) ⊢ (cred (tallyAt (barCell c) 0 2) : sProp 𝕄) := by
    have := (cred_add (Val := Elt F) (Name := ℕ) (U := UU) (Lvl := ℕ) (tallyAt (barCell c) 0 1) (tallyAt (barCell c) (0 : ℕ) 1)).2
    rw [tallyAt_add] at this; exact this
  iintro ⟨⟨⟨HT, HI⟩, HB1⟩, HB2⟩
  isplitl [HB1 HB2]
  · iapply h6
    isplitl [HB1]
    · iapply h3 $$ HB1
    · iapply h4 $$ HB2
  · iapply h5
    isplitl [HI]
    · iapply h2 $$ HI
    · iapply h1 $$ HT

/-! ## The cells' invariants -/

/-- The kernel's own semaphores. -/
def osem : Fin 4 × Fin 6 → SemLoc sig := fun p => csem (some p)
theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(unscopedSems0 c ∗ Pipeline.ownSems0 (Ix := ℕ) (Name := ℕ) (U := UU) (Lvl := ℕ) (Val := Elt F) (τ := τ) osem c)
      = (bigSep Finset.univ fun x : CI => semVal (kcell (c, x)) 0 : sProp 𝕄) := by
  rw [unscopedSems0_eq, bigSep_CI]; rfl

variable (V : Vals F)

/-- What the launch deals a device, -/
def G (c : Dev nD) : sProp 𝕄 :=
  iprop((bigSep Finset.univ fun x : CI => roundState ER (rd V) (kcell (c, x)) 0)
    ∗ (bigSep Finset.univ fun x : CI => iprop(atPos ER (kcell (c, x)) 0 ∅ 0 ∗ reached ER (kcell (c, x)) 0)) ∗ toks c)
/-- what stays with it, -/
def linear (c : Dev nD) : sProp 𝕄 := iprop((bigSep Finset.univ fun x : CI => atPos ER (kcell (c, x)) 0 ∅ 0) ∗ payToks c)
/-- and what is made of it. -/
def G' (c : Dev nD) : sProp 𝕄 := iprop(∃ K, records V K ∗ linear c)

theorem fund_ring : BI.own (ER (initOf ringCells ringToks)) ⊢ (|==> bigSep Finset.univ (G V) : sProp 𝕄) := by
  have hX (A : GSem nD τ sig → sProp 𝕄) : bigSep ringCells A = bigSep Finset.univ fun c : Dev nD => bigSep Finset.univ fun x : CI => A (kcell (c, x)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_minted c
  iintro HX
  imod (Rounds.fund ER (rd V) ringCells ringToks) $$ HX with ⟨Hst, Hr, Hat, Htok⟩
  imodintro
  ihave Hst' := (Entails.of_eq (hX fun g => roundState ER (rd V) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G V c)
      ⊢ |={Set.univ}=> iprop((bigSep Finset.univ fun x => iprop(∃ κ : ℕ, cellInv ER (rd V) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun x : CI => semVal (kcell (c, x)) 0) ∗ bigSep Finset.univ fun x : CI => roundState ER (rd V) (kcell (c, x)) 0)
      ⊢ (|={Set.univ}=> bigSep Finset.univ fun x => iprop(∃ κ : ℕ, cellInv ER (rd V) κ (kcell (c, x))) : sProp 𝕄) from by
        rw [← bigSep_sep']
        exact (bigSep_mono fun x _ => (Rounds.body_intro ER (rd V) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem G'_intro (K : Dev nD × CI → ℕ) (c : Dev nD) : iprop(records V K ∗ linear c) ⊢ G' V c := by
  unfold G'; iintro H; iexists K; iexact H

theorem regroup :
    (bigSep Finset.univ fun c : Dev nD => iprop((bigSep Finset.univ fun x => iprop(∃ κ : ℕ, cellInv ER (rd V) κ (kcell (c, x))))
          ∗ (bigSep Finset.univ fun x => iprop(atPos ER (kcell (c, x)) 0 ∅ 0 ∗ reached ER (kcell (c, x)) 0)) ∗ toks c) : sProp 𝕄)
      ⊢ bigSep Finset.univ (G' V) := by
  rw [bigSep_sep', bigSep_sep', ← bigSep_univ_prod (fun p : Dev nD × CI => iprop(∃ κ : ℕ, cellInv ER (rd V) κ (kcell p))),
    bigSep_congr (s := Finset.univ) (fun (c : Dev nD) _ => bigSep_sep' Finset.univ (fun x : CI => (atPos ER (kcell (c, x)) 0 ∅ 0 : sProp 𝕄)) (fun x => reached ER (kcell (c, x)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (rd V) κ (kcell p) : sProp 𝕄))) $$ HI
  icases HK with ⟨%K, #HI⟩
  ihave Htk := (toks_around (F := F)) $$ Htok
  iapply (bigSep_with_persistent (R := records V K) fun c _ => G'_intro V K c)
  isplitr
  · unfold records; isplitl; · iexact HI
    iexact HR
  · unfold linear
    rw [bigSep_sep']
    isplitl [Hat]; · iexact Hat
    iexact Htk

/-- All devices' semaphores at once: every cell's invariant is set up. -/
theorem glob : (bigSep Finset.univ fun c => iprop(Pipeline.ownSems0 (Ix := ℕ) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

end Cert.Collective

end
-- ==== Proof.Run.lean ====
/- The run of the whole program: the body between the launch and the end. -/
module

public import proofs.«01_k».proof.Proof.Deal

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-! ## Before the body and after it -/

section Ends
variable (V : Vals F) (c : Dev nD) (K : Dev nD × CI → ℕ)

theorem pre_stream (k : Fin 4) :
    iprop(ctx V K ∗ ((atPos ER (recvCell c k 0) 0 ∅ 0 ∗ atPos ER (recvCell c k 1) 0 ∅ 0 ∗ atPos ER (sendCell c k 0) 0 ∅ 0 ∗ atPos ER (sendCell c k 1) 0 ∅ 0
          ∗ atPos ER (credCell c k) 0 ∅ 0 ∗ atPos ER (storeCell c k) 0 ∅ 0)
        ∗ (toksR c k 0 ∗ toksS c k 0 ∗ toksC c k 0 ∗ toksT c k 6) ∗ (credsR c k 0 ∗ credsC c k 0)
        ∗ slotAny (F := F) c k 0 ∗ pchAny (F := F) c k ∗ tilesAny (F := F) c k 6))
      ⊢ iprop(RI c k ∗ SA V c k 6) := by
  have h6 : tilesIs V c k 6 = (iprop(emp) : sProp 𝕄) := by unfold tilesIs; rw [Finset.Ico_self]; rfl
  unfold RI SA
  rw [h6]
  iintro ⟨#HC, ⟨A0, A1, A2, A3, A4, A5⟩, ⟨T0, T1, T2, T3⟩, ⟨C0, C1⟩, S0, P0, Y0⟩
  isplitl [A0 A1 A2 A3 A4 T0 T1 T2 C0 C1 S0]
  · isplitl [A0]; · iexact A0
    isplitl [A1]; · iexact A1
    isplitl [A2]; · iexact A2
    isplitl [A3]; · iexact A3
    isplitl [A4]; · iexact A4
    isplitl [C0]; · iexact C0
    isplitl [C1]; · iexact C1
    isplitl [T0]; · iexact T0
    isplitl [T1]; · iexact T1
    isplitl [T2]; · iexact T2
    iexact S0
  · isplitl [A5]; · iexact A5
    isplitr; · iapply (reached_at V c K (ixT k)); iexact HC
    isplitl [P0]; · iexact P0
    isplitl [T3]; · iexact T3
    isplitl [Y0]; · iexact Y0
    iempintro

theorem pre_intro (f₀ : Buf (Elt F) ((c : Thread nD τ).loc cc0_scratch0)) (f₁ : Buf (Elt F) ((c : Thread nD τ).loc cc0_scratch1))
    (f₂ : Buf (Elt F) ((c : Thread nD τ).loc main_v1)) :
    iprop(ctx V K ∗ owesAny c (O0 c) ∗ linear c ∗ cred (tallyAt (barCell c) 0 2) ∗ (bigSep Finset.univ fun k : Fin 4 => iprop(credsR c k 0 ∗ credsC c k 0))
        ∗ (((c : Thread nD τ).loc cc0_scratch0) ↦{fullShare} f₀) ∗ (((c : Thread nD τ).loc cc0_scratch1) ↦{fullShare} f₁) ∗ (((c : Thread nD τ).loc main_v1) ↦{fullShare} f₂))
      ⊢ pre V c := by
  have hs := (bigSep_with_persistent (S := (Finset.univ : Finset (Fin 4))) (R := ctx V K) fun k _ => pre_stream V c K k)
  simp only [bigSep_sep'] at hs
  unfold pre linear payToks
  rw [bigSep_CI6]
  simp only [bigSep_sep']
  have hb := bufs_split c f₀
  rw [bigSep_sep'] at hb
  iintro ⟨#HC, HO, ⟨⟨AB, A⟩, TL, TR, T⟩, CB, C, B0, B1, B2⟩
  ihave HB := hb $$ B0
  icases HB with ⟨S0, S1⟩
  ihave HP := (pchs_split c f₁) $$ B1
  ihave HT := (out_split c f₂) $$ B2
  isplitl [HO]; · iexact HO
  isplitl [CB]; · iexact CB
  isplitl [AB]; · iexact AB
  isplitl [TL]; · iexact TL
  isplitl [TR]; · iexact TR
  isplitl [A T C S0 HP HT]
  · iapply hs
    isplitr; · iexact HC
    isplitl [A]; · iexact A
    isplitl [T]; · iexact T
    isplitl [C]; · iexact C
    isplitl [S0]; · iexact S0
    isplitl [HP] <;> iassumption
  · iexact S1

/-- A cell past its last round closes, its counter at zero. -/
theorem close_at (x : CI) (R : ℕ) (hR : limC x ≤ R) :
    iprop(ctx V K ∗ atPos ER (kcell (c, x)) R ∅ 0) ⊢ (|={Set.univ}=> semVal (kcell (c, x)) 0 : sProp 𝕄) := by
  iintro ⟨#HC, H⟩
  iapply (Rounds.cell_close ER (rd V) (Set.mem_univ (K (c, x))) (fun h => h) (R := R) fun r hr => duties_end V c x r (hR.trans hr))
  isplitr; · iapply (inv_at V c K x); iexact HC
  iexact H

/-- A stream's semaphores, at zero. -/
def zeros (k : Fin 4) : sProp 𝕄 :=
  iprop(semVal (kcell (c, some (k, 0))) 0 ∗ semVal (kcell (c, some (k, 1))) 0 ∗ semVal (kcell (c, some (k, 2))) 0
    ∗ semVal (kcell (c, some (k, 3))) 0 ∗ semVal (kcell (c, some (k, 4))) 0 ∗ semVal (kcell (c, some (k, 5))) 0)

theorem close_stream (k : Fin 4) :
    iprop(ctx V K ∗ (RE (F := F) c k ∗ SA V c k 14))
      ⊢ (|={Set.univ}=> (zeros (F := F) c k ∗ (slotAny (F := F) c k 0 ∗ slotAny (F := F) c k 1) ∗ pchAny (F := F) c k ∗ tilesIs V c k 14) : sProp 𝕄) := by
  have h0 := close_at V c K (some (k, 0)) 7 (le_refl 7)
  have h1 := close_at V c K (some (k, 1)) 7 (le_refl 7)
  have h2 := close_at V c K (some (k, 2)) 7 (le_refl 7)
  have h3 := close_at V c K (some (k, 3)) 7 (le_refl 7)
  have h4 := close_at V c K (some (k, 4)) 13 (le_refl 13)
  have h5 := close_at V c K (some (k, 5)) 8 (le_refl 8)
  unfold RE SA zeros
  iintro ⟨#HC, ⟨A0, A1, A2, A3, A4, S0, S1⟩, A5, -, P, -, -, T⟩
  imod h0 $$ [A0] with Z0
  · isplitr; · iexact HC
    iexact A0
  imod h1 $$ [A1] with Z1
  · isplitr; · iexact HC
    iexact A1
  imod h2 $$ [A2] with Z2
  · isplitr; · iexact HC
    iexact A2
  imod h3 $$ [A3] with Z3
  · isplitr; · iexact HC
    iexact A3
  imod h4 $$ [A4] with Z4
  · isplitr; · iexact HC
    iexact A4
  imod h5 $$ [A5] with Z5
  · isplitr; · iexact HC
    iexact A5
  imodintro
  isplitl [Z0 Z1 Z2 Z3 Z4 Z5]
  · isplitl [Z0]; · iexact Z0
    isplitl [Z1]; · iexact Z1
    isplitl [Z2]; · iexact Z2
    isplitl [Z3]; · iexact Z3
    isplitl [Z4]; · iexact Z4
    iexact Z5
  isplitl [S0 S1]
  · isplitl [S0] <;> iassumption
  isplitl [P] <;> iassumption

/-- After the body: the scratch buffers, every semaphore at zero, and the tiles stored. -/
def Φ₁ : sProp 𝕄 :=
  iprop((∃ f, ((c : Thread nD τ).loc cc0_scratch0) ↦{fullShare} f) ∗ (∃ f, ((c : Thread nD τ).loc cc0_scratch1) ↦{fullShare} f)
    ∗ (bigSep Finset.univ fun x : CI => semVal (kcell (c, x)) 0) ∗ bigSep Finset.univ fun k : Fin 4 => tilesIs V c k 14)

theorem post_close (f₀ : Buf (Elt F) ((c : Thread nD τ).loc cc0_scratch0)) (f₁ : Buf (Elt F) ((c : Thread nD τ).loc cc0_scratch1)) :
    iprop(ctx V K ∗ post V c) ⊢ (|={Set.univ}=> (owesAny c 0 ∗ Φ₁ V c) : sProp 𝕄) := by
  have hs := (bigSep_with_persistent (S := (Finset.univ : Finset (Fin 4))) (R := ctx V K) fun k _ => close_stream V c K k).trans (bigSep_fupd _ _)
  simp only [bigSep_sep' Finset.univ (fun k => zeros (F := F) c k), bigSep_sep' Finset.univ (fun k => iprop(slotAny (F := F) c k 0 ∗ slotAny (F := F) c k 1)),
    bigSep_sep' Finset.univ (fun k => pchAny (F := F) c k)] at hs
  have hb := close_at V c K none 1 (le_refl 1)
  unfold post Φ₁
  rw [bigSep_CI6]
  iintro ⟨#HC, HO, AB, H⟩
  imod hb $$ [AB] with ZB
  · isplitr; · iexact HC
    iexact AB
  imod hs $$ [H] with ⟨Z, S, P, T⟩
  · isplitr; · iexact HC
    iexact H
  imodintro
  isplitl [HO]; · iexact HO
  isplitl [S]; · iapply (bufs_join c f₀); iexact S
  isplitl [P]; · iapply (pchs_join c f₁); iexact P
  isplitl [ZB Z]
  · isplitl [ZB]; · iexact ZB
    unfold zeros; iexact Z
  iexact T

end Ends

/-! ## The pipeline's data -/

variable (m : (ℓ : Loc nD τ sig) → Buf (Elt F) ℓ) (ρ : Dev nD → PrngReg)

/-- The memory at launch: any contents, every counter zero. -/
def st₀ : MemSt nD τ sig (Elt F) := ⟨m, fun _ => 0, ρ⟩

/-- The operands as the body sees them. -/
def stg0 (c : Dev nD) : (cc0_stg0_0 : Ref sig .tc).ty.Contents (Elt F) := (win0_0.blk (0 : Fin 1)).view.read (Elt F) ((st₀ m ρ).mem ((c : Thread nD τ).loc main_arg0))
def stg1 (c : Dev nD) : (cc0_stg1_0 : Ref sig .tc).ty.Contents (Elt F) := (win0_1.blk (0 : Fin 1)).view.read (Elt F) ((st₀ m ρ).mem ((c : Thread nD τ).loc main_arg1))
def stg2 (c : Dev nD) : (cc0_stg2_0 : Ref sig .tc).ty.Contents (Elt F) := (win0_2.blk (0 : Fin 1)).view.read (Elt F) ((st₀ m ρ).mem ((c : Thread nD τ).loc main_arg2))
def stg3 (c : Dev nD) : (cc0_stg3_0 : Ref sig .tc).ty.Contents (Elt F) := (win0_3.blk (0 : Fin 1)).view.read (Elt F) ((st₀ m ρ).mem ((c : Thread nD τ).loc main_arg3))
/-- The values of the run. -/
def vals : Vals F where
  X := stg0 m ρ
  Y := stg1 m ρ
  sc c := Scalar.mulf (word (stg2 m ρ c)) (word' (stg3 m ρ c))

/-- What a device's body starts from, its scratch apart. -/
def start (c : Dev nD) : sProp 𝕄 :=
  iprop((∃ K, ctx (vals m ρ) K ∗ linear c) ∗ cred (tallyAt (barCell c) 0 2) ∗ (bigSep Finset.univ fun k : Fin 4 => iprop(credsR c k 0 ∗ credsC c k 0))
    ∗ (((c : Thread nD τ).loc main_v1) ↦{fullShare} (st₀ m ρ).mem ((c : Thread nD τ).loc main_v1)))
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))

def dats (_ : Fin 1) (c : Dev nD) : Dat τ (Elt F) ℕ ℕ UU ℕ cfg0 c where
  A w := (st₀ m ρ).mem ((cfg0.win w).arr.view.loc (c : Thread nD τ))
  after w _ := match w with
    | ⟨0, _⟩ => stg0 m ρ c
    | ⟨1, _⟩ => stg1 m ρ c
    | ⟨2, _⟩ => stg2 m ρ c
    | ⟨3, _⟩ => stg3 m ρ c
  Φ t := match t with
    | ⟨0, _⟩ => Φ₀ m ρ c
    | ⟨_ + 1, _⟩ => Φ₁ (vals m ρ) c
  q _ := fullShare
  owed t := match t with
    | ⟨0, _⟩ => O0 c
    | ⟨_ + 1, _⟩ => 0

theorem share_eq (c : Dev nD) (w : Fin cfg0.W) : (dats m ρ 0 c).share w = fullShare := by unfold Dat.share; split <;> rfl

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ (vals m ρ) c ∗ (dats m ρ 0 c).owesAt 0 t0_0.succ
    ∗ stg c cc0_stg0_0 (stg0 m ρ c) ∗ stg c cc0_stg1_0 (stg1 m ρ c) ∗ stg c cc0_stg2_0 (stg2 m ρ c) ∗ stg c cc0_stg3_0 (stg3 m ρ c))

theorem owes_in (c : Dev nD) : (dats m ρ 0 c).owesAt 0 t0_0.castSucc ⊢ owesAny (F := F) c (O0 c) := by
  unfold Dat.owesAt Pipeline.owesWithin owesAny
  iintro ⟨%W, -, H⟩
  iexists W; iexact H
theorem owes_out (c : Dev nD) : owesAny (F := F) c 0 ⊢ (dats m ρ 0 c).owesAt 0 t0_0.succ := by
  unfold Dat.owesAt Pipeline.owesWithin owesAny
  iintro ⟨%W, H⟩
  iexists W
  isplitr; · ipureintro; exact fun _ _ => Or.inl trivial
  iexact H

theorem before0 (c : Dev nD) (d) : (dats m ρ 0 c).before (0 : Fin 4) t0_0 d = stg0 m ρ c := by unfold Dat.before; rw [if_pos (fetch0_0 t0_0)]; rfl
theorem before1 (c : Dev nD) (d) : (dats m ρ 0 c).before (1 : Fin 4) t0_0 d = stg1 m ρ c := by unfold Dat.before; rw [if_pos (fetch0_1 t0_0)]; rfl
theorem before2 (c : Dev nD) (d) : (dats m ρ 0 c).before (2 : Fin 4) t0_0 d = stg2 m ρ c := by unfold Dat.before; rw [if_pos (fetch0_2 t0_0)]; rfl
theorem before3 (c : Dev nD) (d) : (dats m ρ 0 c).before (3 : Fin 4) t0_0 d = stg3 m ρ c := by unfold Dat.before; rw [if_pos (fetch0_3 t0_0)]; rfl

theorem wp_fupd_end (c : Dev nD) {α : Type} (p : P F α) {Q : α → sProp 𝕄} :
    WP c p (fun x => iprop(|={Set.univ}=> Q x)) ⊢ WP c p Q := wp_fupd _ _ _ _ _

theorem sound_body (c : Dev nD) : bodyPre m ρ c ⊢ WP c (body blocks lft rgt) (fun _ => bodyPost m ρ c) := by
  unfold bodyPre Φ₀ start
  iintro ⟨⟨⟨⟨%K, #HC, HL⟩, HB, HR, H2⟩, ⟨%f₀, H0⟩, ⟨%f₁, H1⟩⟩, HO, ⟨%d0, %g0, %e0, X0⟩, ⟨%d1, %g1, %e1, X1⟩, ⟨%d2, %g2, %e2, X2⟩, ⟨%d3, %g3, %e3, X3⟩⟩
  rw [before0] at e0; rw [before1] at e1; rw [before2] at e2; rw [before3] at e3
  subst e0; subst e1; subst e2; subst e3
  ihave HO := (owes_in m ρ c) $$ HO
  iapply (wp_fupd_end c)
  iapply (wp_body (vals m ρ) c K (stg2 m ρ c) (stg3 m ρ c) rfl) $$ [HL HB HR H2 H0 H1 HO X0 X1 X2 X3]
  · isplitr; · iexact HC
    isplitl [X0 X1]
    · unfold ops stgX stgW
      isplitl [X0]; · iexact X0
      iexact X1
    isplitl [X2]; · iexact X2
    isplitl [X3]; · iexact X3
    iapply (pre_intro (vals m ρ) c K f₀ f₁ ((st₀ m ρ).mem ((c : Thread nD τ).loc main_v1)))
    isplitr; · iexact HC
    isplitl [HO]; · iexact HO
    isplitl [HL]; · iexact HL
    isplitl [HB]; · iexact HB
    isplitl [HR]; · iexact HR
    isplitl [H0]; · iexact H0
    isplitl [H1]; · iexact H1
    iexact H2
  iintro ⟨HX, X2, X3, HP⟩
  imod (post_close (vals m ρ) c K f₀ f₁) $$ [HP] with ⟨HO, HF⟩
  · isplitr; · iexact HC
    iexact HP
  imodintro
  unfold bodyPost ops stgX stgW
  icases HX with ⟨X0, X1⟩
  isplitl [HF]; · iexact HF
  isplitl [HO]; · iapply (owes_out m ρ c); iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  iexists _; isplitr; · (ipureintro; rfl)
  iexact X3

set_option maxRecDepth 65536 in
/-- The body of the one grid point. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  rw [bodyAt_eq]
  exact sound_body m ρ c

end Cert.Collective

end
-- ==== Proof.Launched.lean ====
/- The run of the whole program, and what it leaves in memory. -/
module

public import proofs.«01_k».proof.Proof.Run
public import Idealize.ShloMosaic.Lib.Pipeline.Quiescent

@[expose] public section

noncomputable section

namespace Cert.Collective

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Reading the tiles off the final memory -/

/-- A tile held at a value is that value in memory. -/
theorem tile_read (c : Dev nD) (k : Fin 4) (j : Fin 8) (v : FVec F S512x2048 .f32) (s' : Phys nD τ sig (Elt F)) :
    iprop(tileIs c k j v ∗ SI s') ⊢ (⌜(tl k j).view.read (Elt F) (s'.mem.mem ((tl k j).view.loc (c : Thread nD τ))) = v⌝ : sProp 𝕄) := by
  unfold tileIs tilePts
  iintro ⟨⟨%f, %e, H⟩, HSI⟩
  icombine HSI H gives %h
  ipureintro
  rw [← e]
  exact View.read_congr h

/-- All the tiles of a device. -/
theorem tiles_read (V : Vals F) (c : Dev nD) (s' : Phys nD τ sig (Elt F)) :
    iprop((bigSep Finset.univ fun k : Fin 4 => tilesIs V c k 14) ∗ SI s')
      ⊢ (⌜∀ k : Fin 4, ∀ u ∈ Finset.Ico 6 14, (tl k (agC c k u)).view.read (Elt F) (s'.mem.mem ((tl k (agC c k u)).view.loc (c : Thread nD τ))) = outT V k u c⌝ : sProp 𝕄) := by
  refine Laws.pure_forall.2 |> (BIClass.forall_intro fun k => ?_).trans
  refine Laws.pure_forall.2 |> (BIClass.forall_intro fun u => ?_).trans
  refine Laws.pure_forall.2 |> (BIClass.forall_intro fun hu => ?_).trans
  have h : (bigSep Finset.univ fun k : Fin 4 => tilesIs V c k 14) ⊢ tileIs c k (agC c k u) (outT V k u c) :=
    (bigSep_elim (Finset.mem_univ k)).trans (bigSep_elim hu)
  exact (sep_mono_left h).trans (tile_read c k (agC c k u) (outT V k u c) s')

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' (vals m ρ) c)
      ⊢ |={Set.univ}=> iprop(start m ρ c ∗ emp) := by
  have h : (Pipeline.unscopedRestP Pipeline.Prefetch.none cfg0.spec c (fun b => m ((c : Thread nD τ).loc b)) : sProp 𝕄)
      = iprop(((c : Thread nD τ).loc main_v1) ↦{fullShare} m ((c : Thread nD τ).loc main_v1)) :=
    (Pipeline.unscopedRestP_none _ _ _).trans (unscopedRest0_eq c _)
  rw [h]
  unfold G'
  iintro ⟨HV, #Hlev, Hcr, -, ⟨%K, #HR, HL⟩⟩
  ihave Hc := (creds (F := F) c) $$ Hcr
  icases Hc with ⟨H1, HN⟩
  imodintro
  isplitl
  · unfold start ctx
    isplitl [HL]
    · iexists K
      isplitr
      · isplitr
        · iexact HR
        iexact Hlev
      iexact HL
    isplitl [H1]; · iexact H1
    isplitl [HN]; · iexact HN
    iexact HV
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0] <;> iassumption

/-- What a device ends with, its scratch apart. -/
def final (c : Dev nD) : sProp 𝕄 := iprop(unscopedSems0 c ∗ bigSep Finset.univ fun k : Fin 4 => tilesIs (vals m ρ) c k 14)

theorem phi1_exit (c : Dev nD) :
    (dats m ρ 0 c).Φ (Fin.last cfg0.N) ⊢ iprop(final m ρ c ∗ Pipeline.ownSems0 osem c ∗ Pipeline.scopedRest cfg0.spec c) := by
  rw [show (dats m ρ 0 c).Φ (Fin.last cfg0.N) = Φ₁ (vals m ρ) c from rfl, scopedRest0_eq]
  unfold Φ₁ final
  rw [← sems0_eq]
  iintro ⟨H0, H1, ⟨HU, HO⟩, HT⟩
  isplitl [HU HT]
  · isplitl [HU] <;> iassumption
  isplitl [HO]; · iexact HO
  isplitl [H0] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (by
      have h0 : lv ((c : Thread nD τ), SemLoc.dma (((cfgs 0).win w).sem s)) 0 = 0 := by
        unfold lv
        have hd : dec ((SemLoc.dma (((cfgs 0).win w).sem s))) = none := by fin_cases w <;> fin_cases s <;> decide
        dsimp only
        rw [hd]
      rcases t with ⟨_ | _, ht⟩
      · refine above_mono (O0_above c) ?_
        exact (congrArg (· + 1) h0).le
      · exact above_zero _)

/-! ## The run -/

/-- What a window's array holds at the end. -/
def finalA (c : Dev nD) (w : Fin cfg0.W) : Buf (Elt F) ((cfg0.win w).arr.view.loc (c : Thread nD τ)) := (dats m ρ 0 c).arrAt w cfg0.N

/-- What a device's memory holds at the end. -/
def Ends (c : Dev nD) (s : MemSt nD τ sig (Elt F)) : Prop :=
  (∀ k : Fin 4, ∀ u ∈ Finset.Ico 6 14, (tl k (agC c k u)).view.read (Elt F) (s.mem ((tl k (agC c k u)).view.loc (c : Thread nD τ))) = outT (vals m ρ) k u c)
    ∧ ∀ sm : SemLoc sig, sm.isScoped .tc = false → s.sem ((c.tc : Thread nD τ), sm) = 0

def QC : PUnit × MemSt nD τ sig (Elt F) → Prop := fun r =>
  ∀ c : Dev nD, (∀ w : Fin cfg0.W, r.2.mem ((cfg0.win w).arr.view.loc (c : Thread nD τ)) = finalA m ρ c w)
    ∧ ∀ k : Fin 4, ∀ u ∈ Finset.Ico 6 14, (tl k (agC c k u)).view.read (Elt F) (r.2.mem ((tl k (agC c k u)).view.loc (c : Thread nD τ))) = outT (vals m ρ) k u c

theorem final_read (c : Dev nD) (s' : Phys nD τ sig (Elt F)) :
    iprop(final m ρ c ∗ emp ∗ SI s') ⊢ |={Set.univ}=> iprop(⌜Ends m ρ c s'.mem⌝ ∗ SI s') := by
  unfold final
  iintro ⟨⟨Hu, HT⟩, -, HSI⟩
  ihave %ht := (tiles_read (vals m ρ) c s') $$ [HT HSI]
  · isplitl [HT] <;> iassumption
  ihave %hs := (tcUnscoped_read c s') $$ [Hu HSI]
  · isplitl [Hu] <;> iassumption
  imodintro
  isplitr
  · ipureintro; exact ⟨ht, hs⟩
  iexact HSI

set_option maxRecDepth 65536 in
/-- At the mesh of eight devices, for any float values, from any memory with zero counters: every weakly fair execution
    of the program terminates, with the operands unchanged, every tile of every result at its computed value, and every counter zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O0) (howed₀ := fun _ => rfl) (howedN := fun _ => rfl)
    (L := L) (lv := lv) (hL := fun g h => if_neg h) (hwaits := waits m ρ)
    (G := G (vals m ρ)) (G' := G' (vals m ρ)) (u₀ := u₀)
    (hu₀ := by
      unfold u₀
      iintro Hu
      ihave H := (ownU_pair _ _) $$ Hu
      icases H with ⟨HP, HX⟩
      imod (fund_ring (vals m ρ)) $$ HX with HG
      imodintro
      isplitl [HP] <;> iassumption)
    (hglob := glob (vals m ρ))
    (hA := fun _ _ => rfl) (hpf := fun _ k => k.elim0)
    (X := start m ρ) (Y := final m ρ) (Z := fun _ => iprop(emp))
    (hX := start_intro m ρ) (hin := phi0_intro m ρ) (hout := phi1_exit m ρ)
    (QY := Ends m ρ) (hY := final_read m ρ)
    (hQ := fun _ h hs => ⟨fun c => ⟨fun w => (h c).1 w, (h c).2.2.1⟩, sem_eq_zero hs fun c => (h c).2.2.2⟩)

/-- The operands' arrays end as they began. -/
theorem final_arg (c : Dev nD) (w : Fin cfg0.W) : finalA m ρ c w = (st₀ m ρ).mem ((cfg0.win w).arr.view.loc (c : Thread nD τ)) :=
  (dats (F := F) m ρ 0 c).arrAt_in w (by fin_cases w <;> rfl) _

end Cert.Collective

end
-- ==== Proof.Frames.lean ====
/- The runs of the two printed kernels, as the certificate states them. -/
module

public import proofs.«01_k».proof.Proof.Launched
public import proofs.«01_k».proof.Proof.Gen.Kernel
public import proofs.«01_k».proof.Defs

@[expose] public section

noncomputable section

namespace Cert.Collective

open Idealize.ShloMosaic
open Idealize.ShloMosaic.TcCoe
open Idealize.SL.Sem

/-- The kernel's runs leave the operands as they were, and every counter at zero, for any float values. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0) :=
  (θ_run KernelIdeal.defs _ _).mono
    (fun r h => ⟨fun c => ⟨((h.1 c).1 (0 : Fin 4)).trans (final_arg m ρ c 0), ((h.1 c).1 (1 : Fin 4)).trans (final_arg m ρ c 1),
      ((h.1 c).1 (2 : Fin 4)).trans (final_arg m ρ c 2), ((h.1 c).1 (3 : Fin 4)).trans (final_arg m ρ c 3)⟩, h.2⟩) (run_main m ρ)

theorem frame_ideal : Cert.quiescent_KernelIdeal := fun m ρ _ => frame_any m ρ

section Same
variable {F : FTy → Type} [FloatOps F]

set_option maxRecDepth 65536 in
/-- The two printed kernels have one body, -/
theorem same_body : Kernel.cc0__ar_body (F := F) = KernelIdeal.cc0__ar_body (F := F) := rfl
set_option maxRecDepth 65536 in
/-- one table of kernels, -/
theorem same_table : Kernel.defs₀ (F := F) = KernelIdeal.defs₀ (F := F) := by
  unfold Kernel.defs₀ KernelIdeal.defs₀
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _
  | ⟨_ + 1, h⟩, _ => exact absurd h (Nat.not_lt.2 (Nat.le_add_left _ _))
set_option maxRecDepth 65536 in
/-- and one table with the launch's own entries. -/
theorem same_defs : Kernel.defs (F := F) = KernelIdeal.defs (F := F) :=
  congrArg (Pipeline.defs (Kernel.pcfgs (F := F))) same_table

end Same

/-- The kernel as printed. -/
theorem frame_kernel : Cert.quiescent_Kernel := fun m ρ _ => by
  rw [same_defs]
  exact frame_any (F := Bits) m ρ

end Cert.Collective

end
-- ==== Proof.Sums.lean ====
/- The travelling chunks over the extended reals: every finished tile is the sum of the eight devices' products. -/
module

public import proofs.«01_k».proof.Proof.Sched
public import Idealize.ShloMosaic.Lib.MatmulPlain

@[expose] public section

noncomputable section

namespace Cert.Collective

open Cert.KernelIdeal Cert.KernelIdeal.Gen
open Idealize.ShloMosaic Idealize.ShloMosaic.TcCoe Idealize.ShloMosaic.ValueIdx
open Idealize.SL Idealize.SL.Sem
open scoped BigOperators

/-! ## Which device adds what -/

/-- The chunk a device sends after `g` additions. -/
def chk (c : Dev nD) (k : Fin 4) : ℕ → Fin 8
  | 0 => ⟨c.val, c.isLt⟩
  | g + 1 => rsC c k g

/-- A chunk keeps its number when it moves on. -/
theorem chk_up (k : Fin 4) (c : Dev nD) (g : ℕ) (hg : g < 7) : chk (up k c) k g = rsC c k g := by
  have h : ∀ k : Fin 4, ∀ c : Dev nD, ∀ g : Fin 7, chk (up k c) k g.val = rsC c k g.val := by decide +kernel
  exact h k c ⟨g, hg⟩

/-- The chunk a device finishes is the one it stores first. -/
theorem own (k : Fin 4) (c : Dev nD) : rsC c k 6 = agC c k 6 := by revert k c; decide +kernel

/-- A finished tile keeps its number when it moves on. -/
theorem agC_up (k : Fin 4) (c : Dev nD) (g : ℕ) (h6 : 6 ≤ g) (hg : g < 13) : agC (up k c) k g = agC c k (g + 1) := by
  have h : ∀ k : Fin 4, ∀ c : Dev nD, ∀ g : Fin 13, 6 ≤ g.val → agC (up k c) k g.val = agC c k (g.val + 1) := by decide +kernel
  exact h k c ⟨g, hg⟩ h6

/-- Going upstream from any device meets all eight. -/
theorem orbit (k : Fin 4) (c : Dev nD) {M : Type} [AddCommMonoid M] (f : Dev nD → M) :
    ∑ n ∈ Finset.range 8, f ((up k)^[n] c) = ∑ d, f d := by
  have hi : ∀ k : Fin 4, ∀ c : Dev nD, (Finset.range 8).image (fun n => (up k)^[n] c) = Finset.univ := by decide +kernel
  have hj : ∀ k : Fin 4, ∀ c : Dev nD, ∀ a ∈ Finset.range 8, ∀ b ∈ Finset.range 8, (up k)^[a] c = (up k)^[b] c → a = b := by decide +kernel
  rw [← hi k c, Finset.sum_image fun a ha b hb h => hj k c a ha b hb h]

/-! ## The chunks as sums -/

variable (V : Vals Ideal)

/-- Device `d`'s product for tile `j` of stream `k`. -/
def part (k : Fin 4) (j : Fin 8) (d : Dev nD) (i : S512x2048.Idx) : EReal := pdot (V.x d j) (V.w d k) i

/-- What leaves a device after `g` additions: the products of the devices upstream and its own. -/
theorem sent_sum (k : Fin 4) : ∀ (g : ℕ), g < 7 → ∀ (c : Dev nD) (i : S512x2048.Idx),
    (sent V k g c i : EReal) = ∑ n ∈ Finset.range (g + 1), part V k (chk c k g) ((up k)^[n] c) i
  | 0, _, c, i => by
    rw [Finset.sum_range_one]
    rfl
  | g + 1, hg, c, i => by
    have ih := sent_sum k g (by omega) (up k c) i
    have hs : sent V k (g + 1) c = accV (sent V k g (up k c)) (V.x c (rsC c k g)) (V.w c k) := by
      rw [sent, if_pos (by omega)]
    rw [hs, Finset.sum_range_succ', show chk c k (g + 1) = rsC c k g from rfl]
    show (sent V k g (up k c) i : EReal) + part V k (rsC c k g) c i = _
    rw [ih, chk_up k c g (by omega)]
    rfl

/-- A tile of the result. -/
def fin (s : EReal) (k : Fin 4) (j : Fin 8) (i : S512x2048.Idx) : EReal := max ((∑ d, part V k j d i) * s) 0

/-- The tile a device finishes. -/
theorem own_tile (s : EReal) (hs : ∀ c, V.sc c = s) (k : Fin 4) (c : Dev nD) (i : S512x2048.Idx) :
    (yV (V.sc c) (sent V k 6 (up k c)) (V.x c (rsC c k 6)) (V.w c k) i : EReal) = fin V s k (agC c k 6) i := by
  show max (((sent V k 6 (up k c) i : EReal) + part V k (rsC c k 6) c i) * (V.sc c : EReal)) (Ideal.ofBits .f32 0x00000000#32 : EReal) = _
  rw [sent_sum V k 6 (by omega), chk_up k c 6 (by omega), hs c, Ideal.ofBits_zero_f32, own, fin,
    ← orbit k c (fun d => part V k (agC c k 6) d i), Finset.sum_range_succ' _ 7]
  rfl

/-- What leaves a device once its own tile is finished: a tile. -/
theorem sent_tile (s : EReal) (hs : ∀ c, V.sc c = s) (k : Fin 4) : ∀ (g : ℕ), 6 ≤ g → g < 14 → ∀ (c : Dev nD) (i : S512x2048.Idx),
    (sent V k (g + 1) c i : EReal) = fin V s k (agC c k g) i := fun g h6 => by
  induction g, h6 using Nat.le_induction with
  | base =>
    intro _ c i
    have h : sent V k (6 + 1) c = narrowV (yV (V.sc c) (sent V k 6 (up k c)) (V.x c (rsC c k 6)) (V.w c k)) := by
      rw [sent, if_neg (by omega), if_pos rfl]
    rw [h]
    exact own_tile V s hs k c i
  | succ g h6 ih =>
    intro hg c i
    have h : sent V k (g + 1 + 1) c = sent V k (g + 1) (up k c) := by
      rw [sent, if_neg (by omega), if_neg (by omega)]
    rw [h, ih (by omega), agC_up k c g h6 (by omega)]

/-- What a device stores: a tile. -/
theorem out_tile (s : EReal) (hs : ∀ c, V.sc c = s) (k : Fin 4) (g : ℕ) (h6 : 6 ≤ g) (hg : g < 14) (c : Dev nD) (i : S512x2048.Idx) :
    (outT V k g c i : EReal) = fin V s k (agC c k g) i := by
  obtain rfl | h := Nat.eq_or_lt_of_le h6
  · rw [outT, if_pos rfl]; exact own_tile V s hs k c i
  · obtain ⟨u, rfl⟩ : ∃ u, g = u + 1 := ⟨g - 1, by omega⟩
    rw [outT, if_neg (by omega)]
    show (sent V k (u + 1) (up k c) i : EReal) = _
    rw [sent_tile V s hs k u (by omega) (by omega), agC_up k c u (by omega) (by omega)]

end Cert.Collective

end
-- ==== Proof.RefValue.lean ====
/- The reference's result: one matrix product, scaled, and cut off below at zero. -/
module

public import proofs.«01_k».proof.Defs
public import proofs.«01_k».proof.Proof.Gen.ReferenceIdeal
public import proofs.«01_k».proof.Proof.Gen.ReferenceIdeal.Value
public import Idealize.ShloMosaic.Lib.Pipeline.Value
public import Idealize.ShloMosaic.Lib.MatmulPlain
public import Idealize.ShloMosaic.Lib.Tactic

@[expose] public section

noncomputable section

namespace Cert.ReferenceIdeal.Whole

open Cert.ReferenceIdeal Cert.ReferenceIdeal.Gen
open Idealize.ShloMosaic Idealize.ShloMosaic.TcCoe Idealize.SL.Sem Idealize.ShloMosaic.ValueIdx
open scoped BigOperators
open Idealize.ShloMosaic.Pipeline (Dat)

variable {F : FTy → Type} [FloatOps F]
variable (m : (ℓ : Loc nD τ sig) → Buf (Elt F) ℓ)

/-- The one word of a scale. -/
def one (s : Vec F S1 .f32) : F .f32 := s (Shape.Idx.first (by decide))

/-- The reference's result as a function of its four arguments. -/
def res (x : Vec F S4096x4096 .fp8e4m3) (w : Vec F S4096x8192 .fp8e5m2) (s t : Vec F S1 .f32) : FVec F S4096x8192 .f32 :=
  maximumf (mulf (matmul dot_S4096x4096_S4096x8192_S4096x8192_1_0_0_1_n_n none
      (extf .f32 x bitsLt_fp8e4m3_f32) (extf .f32 w bitsLt_fp8e5m2_f32) (constant S4096x8192 .f32 0x00000000#32))
      (broadcast S4096x8192 (Scalar.mulf (one s) (one t))))
    (broadcast S4096x8192 (Scalar.ofBits .f32 0x00000000#32))

theorem z2 : (![0, 0] : Fin 2 → ℕ) = fun _ => 0 := funext fun a => by fin_cases a <;> rfl
theorem z1 : (![0] : Fin 1 → ℕ) = fun _ => 0 := funext fun a => by fin_cases a; rfl

/-- What the body leaves in the result's buffer. -/
theorem left (c : Dev nD) (a0 : Memref sig .tc .vmem S4096x4096 .fp8e4m3) (h0 : a0.IsWhole)
    (a1 : Memref sig .tc .vmem S4096x8192 .fp8e5m2) (h1 : a1.IsWhole) (a2 : Memref sig .tc .smem S1 .f32) (h2 : a2.IsWhole)
    (a3 : Memref sig .tc .smem S1 .f32) (h3 : a3.IsWhole) (a4 : Memref sig .tc .vmem S4096x8192 .f32) (h4 : a4.IsWhole)
    (x : Vec F S4096x4096 .fp8e4m3) (w : Vec F S4096x8192 .fp8e5m2) (s t : Vec F S1 .f32) :
    out0_A_4 c a0 h0 a1 h1 a2 h2 a3 h3 a4 h4 x w s t = res x w s t := by
  unfold out0_A_4
  rw [View.read_writes_eq_canon _ _ _ (cover0_A_4 c a0 h0 a1 h1 a2 h2 a3 h3 a4 h4 x w s t)]
  unfold kernelRun0_A
  dsimp only
  sl_unfold_words
  rw [View.canon_unit_zero z2]
  unfold k0_pay1
  simp only [View.readAt_eq_ld, h0.read_unread, h1.read_unread, h2.read_unread, h3.read_unread,
    View.ld_unit_zero (S := S4096x4096) z2, View.ld_unit_zero (S := S4096x8192) z2]
  rw [show View.ld s (Rect.unit ![0] ![1] inb_S1_S1_0) = s from View.ld_unit_zero (S := S1) z1 _ s,
    show View.ld t (Rect.unit ![0] ![1] inb_S1_S1_0) = t from View.ld_unit_zero (S := S1) z1 _ t]
  rfl

/-- The arguments as the one device holds them. -/
abbrev a0 (c : Dev nD) : Vec F S4096x4096 .fp8e4m3 := m ((c : Thread nD τ).loc main_arg0)
abbrev a1 (c : Dev nD) : Vec F S4096x8192 .fp8e5m2 := m ((c : Thread nD τ).loc main_arg1)
abbrev a2 (c : Dev nD) : Vec F S1 .f32 := m ((c : Thread nD τ).loc main_arg2)
abbrev a3 (c : Dev nD) : Vec F S1 .f32 := m ((c : Thread nD τ).loc main_arg3)

theorem blk0 (c : Dev nD) : iblk m c 0 t0_0 = a0 m c := by
  have hz : (fun a => win0_0.index t0_0 a * main_arg0.ty.shape.size a) = fun _ => 0 := funext fun a => by fin_cases a <;> decide
  exact Memref.read_access_unit_zero (Elt F) main_arg0 hz (fun a => by rw [congrFun hz a]; simp) (a0 m c)
theorem blk1 (c : Dev nD) : iblk m c 1 t0_0 = a1 m c := by
  have hz : (fun a => win0_1.index t0_0 a * main_arg1.ty.shape.size a) = fun _ => 0 := funext fun a => by fin_cases a <;> decide
  exact Memref.read_access_unit_zero (Elt F) main_arg1 hz (fun a => by rw [congrFun hz a]; simp) (a1 m c)
theorem blk2 (c : Dev nD) : iblk m c 2 t0_0 = a2 m c := by
  have hz : (fun a => win0_2.index t0_0 a * main_arg2.ty.shape.size a) = fun _ => 0 := funext fun a => by fin_cases a <;> decide
  exact Memref.read_access_unit_zero (Elt F) main_arg2 hz (fun a => by rw [congrFun hz a]; simp) (a2 m c)
theorem blk3 (c : Dev nD) : iblk m c 3 t0_0 = a3 m c := by
  have hz : (fun a => win0_3.index t0_0 a * main_arg3.ty.shape.size a) = fun _ => 0 := funext fun a => by fin_cases a <;> decide
  exact Memref.read_access_unit_zero (Elt F) main_arg3 hz (fun a => by rw [congrFun hz a]; simp) (a3 m c)

/-- The result array after the run: the one block written back is the whole array. -/
theorem final (c : Dev nD) : (dats m 0 c).arrAt 4 cfg0.N = res (a0 m c) (a1 m c) (a2 m c) (a3 m c) := by
  have hz : (fun a => win0_4.index t0_0 a * main_v0.ty.shape.size a) = fun _ => 0 := funext fun a => by fin_cases a <;> decide
  have h := Value.blocks4 m c t0_0 (by decide)
  rw [Value.flushed4_A, left, blk0, blk1, blk2, blk3] at h
  exact (Memref.read_access_unit_zero (Elt F) main_v0 hz (fun a => by rw [congrFun hz a]; simp) _).symm.trans h

/-- At an index, over the extended reals: the sum over the contracted axis, scaled, and cut off below at zero. -/
theorem res_apply (x : Vec Ideal S4096x4096 .fp8e4m3) (w : Vec Ideal S4096x8192 .fp8e5m2) (s t : Vec Ideal S1 .f32)
    (r : Fin 4096) (q : Fin 8192) :
    res x w s t (ix2 r q) = max ((∑ k : Fin 4096, (x (ix2 r k) : EReal) * w (ix2 k q)) * ((one s : EReal) * one t)) 0 := by
  have h := Ideal.matmul_plain_apply (M := 4096) (K := 4096) (N := 8192) none
    (extf .f32 x bitsLt_fp8e4m3_f32 : FVec Ideal S4096x4096 .f32) (extf .f32 w bitsLt_fp8e5m2_f32 : FVec Ideal S4096x8192 .f32)
    (constant S4096x8192 .f32 0x00000000#32) r q
  show max (_ * ((one s : EReal) * one t)) (FloatOps.ofBits (F := Ideal) .f32 0x00000000#32 : EReal) = _
  refine congrArg₂ max (congrArg (· * _) (h.trans ?_)) Ideal.ofBits_zero_f32
  show (Ideal.ofBits .f32 0x00000000#32 : EReal) + _ = _
  rw [Ideal.ofBits_zero_f32, zero_add]
  rfl

end Cert.ReferenceIdeal.Whole

end
-- ==== Proof.Algebraic.lean ====
/- Over the extended reals every device's result is the reference's. -/
module

public import proofs.«01_k».proof.Proof.Sums
public import proofs.«01_k».proof.Proof.RefValue
public import proofs.«01_k».proof.Proof.Frames

@[expose] public section

noncomputable section

namespace Cert.Collective

open Cert.KernelIdeal Cert.KernelIdeal.Gen
open Idealize.ShloMosaic Idealize.ShloMosaic.TcCoe Idealize.ShloMosaic.ValueIdx
open Idealize.SL Idealize.SL.Sem
open scoped BigOperators

/-! ## The staged operands -/

section Staged
variable {F : FTy → Type} [FloatOps F]
variable (m : (ℓ : Loc nD τ sig) → Buf (Elt F) ℓ) (ρ : Dev nD → PrngReg)

theorem stg0_eq (c : Dev nD) : stg0 m ρ c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) (m ((c : Thread nD τ).loc main_arg0))
theorem stg1_eq (c : Dev nD) : stg1 m ρ c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) (m ((c : Thread nD τ).loc main_arg1))
theorem stg2_eq (c : Dev nD) : stg2 m ρ c = m ((c : Thread nD τ).loc main_arg2) := by
  have hz : (fun a => win0_2.index (0 : Fin 1) a * main_arg2.ty.shape.size a) = fun _ => 0 := funext fun a => by fin_cases a <;> decide
  exact Memref.read_access_unit_zero (Elt F) main_arg2 hz (fun a => by rw [congrFun hz a]; simp) (m ((c : Thread nD τ).loc main_arg2))
theorem stg3_eq (c : Dev nD) : stg3 m ρ c = m ((c : Thread nD τ).loc main_arg3) := by
  have hz : (fun a => win0_3.index (0 : Fin 1) a * main_arg3.ty.shape.size a) = fun _ => 0 := funext fun a => by fin_cases a <;> decide
  exact Memref.read_access_unit_zero (Elt F) main_arg3 hz (fun a => by rw [congrFun hz a]; simp) (m ((c : Thread nD τ).loc main_arg3))

theorem word_one (f : Vec F S1 .f32) : word (F := F) f = ReferenceIdeal.Whole.one f :=
  congrFun (Memref.readAt_unit_zero (Elt F) cc0_stg2_0 ReferenceIdeal.Whole.z1 _ f) _
theorem word_one' (f : Vec F S1 .f32) : word' (F := F) f = ReferenceIdeal.Whole.one f :=
  congrFun (Memref.readAt_unit_zero (Elt F) cc0_stg3_0 ReferenceIdeal.Whole.z1 _ f) _

end Staged

/-! ## One tile -/

/-- Row `a` of chunk `j`. -/
def row (j : Fin 8) (a : Fin 512) : Fin 4096 := ⟨512 * j.val + a.val, by omega⟩
/-- Column `b` of stream `k`. -/
def col (k : Fin 4) (b : Fin 2048) : Fin 8192 := ⟨2048 * k.val + b.val, by omega⟩

/-- An element of a device's staged block of `x`, -/
def xAt (V : Vals Ideal) (d : Dev nD) (r : Fin 4096) (l : Fin 512) : EReal := (V.X d : Vec Ideal S4096x512 .fp8e4m3) (ix2 r l)
/-- and of `w`. -/
def wAt (V : Vals Ideal) (d : Dev nD) (l : Fin 512) (q : Fin 8192) : EReal := (V.Y d : Vec Ideal S512x8192 .fp8e5m2) (ix2 l q)

/-- A device's product at an index: the sum over the device's part of the contracted axis. -/
theorem part_apply (V : Vals Ideal) (k : Fin 4) (j : Fin 8) (d : Dev nD) (a : Fin 512) (b : Fin 2048) :
    part V k j d (ix2 a b) = ∑ l : Fin 512, xAt V d (row j a) l * wAt V d l (col k b) := by
  have h := Ideal.matmul_plain_apply (M := 512) (K := 512) (N := 2048) none
    (extf .bf16 (shapeCast S512x512 (V.x d j) shapeCasts_S512x512_S512x512) bitsLt_fp8e4m3_bf16 : FVec Ideal S512x512 .bf16)
    (extf .bf16 (shapeCast S512x2048 (V.w d k) shapeCasts_S512x2048_S512x2048) bitsLt_fp8e5m2_bf16 : FVec Ideal S512x2048 .bf16)
    (constant S512x2048 .f32 0x00000000#32) a b
  refine Eq.trans h ?_
  show (Ideal.ofBits .f32 0x00000000#32 : EReal) + _ = _
  rw [Ideal.ofBits_zero_f32, zero_add, shapeCast_self, shapeCast_self]
  refine Finset.sum_congr rfl fun l _ => congrArg₂ (fun p q : EReal => p * q) ?_ ?_
  · show (V.X d : Vec Ideal S4096x512 .fp8e4m3) _ = _
    refine congrArg (V.X d : Vec Ideal S4096x512 .fp8e4m3) (funext fun e => Fin.ext ?_)
    match e with
    | ⟨0, _⟩ => show 512 * j.val + 1 * a.val = 512 * j.val + a.val; omega
    | ⟨1, _⟩ => show 0 + 1 * l.val = l.val; omega
  · show (V.Y d : Vec Ideal S512x8192 .fp8e5m2) _ = _
    refine congrArg (V.Y d : Vec Ideal S512x8192 .fp8e5m2) (funext fun e => Fin.ext ?_)
    match e with
    | ⟨0, _⟩ => show 0 + 1 * l.val = l.val; omega
    | ⟨1, _⟩ => show 2048 * k.val + 1 * b.val = 2048 * k.val + b.val; omega

/-- The contracted axis cut among the devices. -/
theorem cut_sum (f : Fin 4096 → EReal) :
    ∑ d : Fin 8, ∑ l : Fin 512, f ⟨d.val * 512 + l.val, by omega⟩ = ∑ K, f K := by
  rw [← Fintype.sum_prod_type', ← Equiv.sum_comp (finProdFinEquiv (m := 8) (n := 512)) f]
  refine Finset.sum_congr rfl fun p _ => congrArg f (Fin.ext ?_)
  show p.1.val * 512 + p.2.val = p.2.val + 512 * p.1.val
  omega

section Whole
variable (m : (ℓ : Loc nD τ sig) → Buf (Elt Ideal) ℓ) (ρ : Dev nD → PrngReg)
variable (x : Vec Ideal ReferenceIdeal.S4096x4096 .fp8e4m3) (w : Vec Ideal ReferenceIdeal.S4096x8192 .fp8e5m2)
  (s t : Vec Ideal ReferenceIdeal.S1 .f32)

/-- A tile of the result is that tile of the reference's result. -/
theorem tile_eq
    (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 8192]⟩ ⟨2, ![4096, 8192]⟩ 0 8 c w)
    (k : Fin 4) (j : Fin 8) (a : Fin 512) (b : Fin 2048) :
    fin (vals m ρ) ((ReferenceIdeal.Whole.one s : EReal) * ReferenceIdeal.Whole.one t) k j (ix2 a b)
      = ReferenceIdeal.Whole.res x w s t (ix2 (row j a) (col k b)) := by
  rw [ReferenceIdeal.Whole.res_apply, fin, ← cut_sum]
  refine congrArg (fun p : EReal => max (p * _) 0) (Finset.sum_congr rfl fun d _ => ?_)
  rw [part_apply]
  refine Finset.sum_congr rfl fun l _ => congrArg₂ (fun p q : EReal => p * q) ?_ ?_
  · show (stg0 m ρ d : Vec Ideal S4096x512 .fp8e4m3) _ = _
    rw [stg0_eq, hx d]
    refine congrArg x (funext fun e => Fin.ext ?_)
    match e with
    | ⟨0, _⟩ => rfl
    | ⟨1, _⟩ => rfl
  · show (stg1 m ρ d : Vec Ideal S512x8192 .fp8e5m2) _ = _
    rw [stg1_eq, hw d]
    refine congrArg w (funext fun e => Fin.ext ?_)
    match e with
    | ⟨0, _⟩ => rfl
    | ⟨1, _⟩ => rfl

/-- An array whose tiles are the reference's is the reference's. -/
theorem array_eq (c : Dev nD) (f : Vec Ideal S4096x8192 .f32)
    (h : ∀ k : Fin 4, ∀ u ∈ Finset.Ico 6 14, (tl k (agC c k u)).view.read (Elt Ideal) f = outT (vals m ρ) k u c)
    (hx : ∀ c : Dev nD, m ((c : Thread nD τ).loc main_arg0) = Layout.block ⟨2, ![4096, 512]⟩ ⟨2, ![4096, 4096]⟩ 1 8 c x)
    (hw : ∀ c : Dev nD, m ((c : Thread nD τ).loc main_arg1) = Layout.block ⟨2, ![512, 8192]⟩ ⟨2, ![4096, 8192]⟩ 0 8 c w)
    (hs : ∀ c : Dev nD, m ((c : Thread nD τ).loc main_arg2) = s)
    (ht : ∀ c : Dev nD, m ((c : Thread nD τ).loc main_arg3) = t) :
    f = ReferenceIdeal.Whole.res x w s t := by
  have hsc : ∀ c, (vals m ρ).sc c = ((ReferenceIdeal.Whole.one s : EReal) * ReferenceIdeal.Whole.one t) := fun c => by
    show Scalar.mulf (word (stg2 m ρ c)) (word' (stg3 m ρ c)) = _
    rw [stg2_eq, stg3_eq, hs c, ht c, word_one, word_one']
    rfl
  funext i
  have h0 : (i 0).val < 4096 := (i 0).isLt
  have h1 : (i 1).val < 8192 := (i 1).isLt
  let j : Fin 8 := ⟨(i 0).val / 512, by omega⟩
  let k : Fin 4 := ⟨(i 1).val / 2048, by omega⟩
  let a : Fin 512 := ⟨(i 0).val % 512, by omega⟩
  let b : Fin 2048 := ⟨(i 1).val % 2048, by omega⟩
  have hi : i = ix2 (row j a) (col k b) := funext fun e => Fin.ext (by
    match e with
    | ⟨0, _⟩ => show (i 0).val = 512 * ((i 0).val / 512) + (i 0).val % 512; omega
    | ⟨1, _⟩ => show (i 1).val = 2048 * ((i 1).val / 2048) + (i 1).val % 2048; omega)
  obtain ⟨u, hu, huj⟩ := Finset.mem_image.mp (show j ∈ (Finset.Ico 6 14).image (agC c k) by rw [ag_image]; exact Finset.mem_univ _)
  have hr := congrFun (h k u hu) (ix2 a b)
  have hu' := Finset.mem_Ico.mp hu
  rw [out_tile (vals m ρ) _ hsc k u hu'.1 hu'.2 c, huj, tile_eq m ρ x w s t hx hw] at hr
  rw [hi, ← hr]
  show f _ = f _
  refine congrArg f (funext fun e => Fin.ext ?_)
  match e with
  | ⟨0, _⟩ => show 512 * j.val + a.val = 512 * j.val + 1 * a.val; omega
  | ⟨1, _⟩ => show 2048 * k.val + b.val = 2048 * k.val + 1 * b.val; omega

end Whole

/-- Every device's whole result is the reference's, over the extended reals. -/
theorem algebraic : Cert.algebraic_KernelIdeal_ReferenceIdeal := fun m g m' g' _ hm =>
  ⟨ReferenceIdeal.Whole.res (ReferenceIdeal.Whole.a0 m' 0) (ReferenceIdeal.Whole.a1 m' 0) (ReferenceIdeal.Whole.a2 m' 0) (ReferenceIdeal.Whole.a3 m' 0),
    (θ_run KernelIdeal.defs _ _).mono
      (fun r h c => ⟨array_eq m g _ _ _ _ c _ (h.1 c).2 (fun c => (hm c).1) (fun c => (hm c).2.1) (fun c => (hm c).2.2.1) (fun c => (hm c).2.2.2),
        ((h.1 c).1 (0 : Fin 4)).trans (final_arg m g c 0), ((h.1 c).1 (1 : Fin 4)).trans (final_arg m g c 1),
        ((h.1 c).1 (2 : Fin 4)).trans (final_arg m g c 2), ((h.1 c).1 (3 : Fin 4)).trans (final_arg m g c 3)⟩) (run_main m g),
    (θ_run ReferenceIdeal.defs _ _).mono
      (fun r h => ⟨(h 0).1.trans (ReferenceIdeal.Whole.final m' 0), (h 0).2⟩) (ReferenceIdeal.Value.run_blocks m' g')⟩

end Cert.Collective

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Collective.frame_kernel, Cert.Collective.frame_ideal, fun m ρ _ => Cert.ReferenceIdeal.Gen.frame m ρ, trivial,
  Cert.Collective.algebraic⟩

end Cert.Proof

end
